-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S72x2x2048 Cert.KernelIdeal.S72x1x2048
  ∧ IdealRules.bf16_pair.PackStatement Cert.KernelIdeal.S1x2048
  ∧ IdealRules.bf16_pair.Statement Cert.KernelIdeal.S1x2x2048 Cert.KernelIdeal.S1x1x2048
  ∧ IdealRules.bf16_pair.Statement Cert.KernelIdeal.S72x2x512 Cert.KernelIdeal.S72x1x512
  ∧ IdealRules.bf16_pair.Statement Cert.KernelIdeal.S144x512 Cert.KernelIdeal.S72x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4608 : Shape := ⟨3, ![8, 1, 4608]⟩
abbrev S73728x2304 : Shape := ⟨2, ![73728, 2304]⟩
abbrev S73728x18 : Shape := ⟨2, ![73728, 18]⟩
abbrev S73728x18x12 : Shape := ⟨3, ![73728, 18, 12]⟩
abbrev S8x72x2x32 : Shape := ⟨4, ![8, 72, 2, 32]⟩
abbrev S8x72x32x2 : Shape := ⟨4, ![8, 72, 32, 2]⟩
abbrev S8x4608 : Shape := ⟨2, ![8, 4608]⟩
abbrev S18x12x73728 : Shape := ⟨3, ![18, 12, 73728]⟩
abbrev S18x73728 : Shape := ⟨2, ![18, 73728]⟩
abbrev S8x73728 : Shape := ⟨2, ![8, 73728]⟩
abbrev S2048x2304 : Shape := ⟨2, ![2048, 2304]⟩
abbrev S18x12x2048 : Shape := ⟨3, ![18, 12, 2048]⟩
abbrev S18x2048 : Shape := ⟨2, ![18, 2048]⟩
abbrev S8x2048 : Shape := ⟨2, ![8, 2048]⟩
abbrev S72x2048 : Shape := ⟨2, ![72, 2048]⟩
abbrev S1x12x2048 : Shape := ⟨3, ![1, 12, 2048]⟩
abbrev S12x2048 : Shape := ⟨2, ![12, 2048]⟩
abbrev S3x2048 : Shape := ⟨2, ![3, 2048]⟩
abbrev S1x2048 : Shape := ⟨2, ![1, 2048]⟩
abbrev S72x512 : Shape := ⟨2, ![72, 512]⟩
abbrev S144x512 : Shape := ⟨2, ![144, 512]⟩
abbrev S8x512 : Shape := ⟨2, ![8, 512]⟩
abbrev S512x128 : Shape := ⟨2, ![512, 128]⟩
abbrev S128x512 : Shape := ⟨2, ![128, 512]⟩
abbrev S128x1x512 : Shape := ⟨3, ![128, 1, 512]⟩
abbrev S128x2x512 : Shape := ⟨3, ![128, 2, 512]⟩
abbrev S256x512 : Shape := ⟨2, ![256, 512]⟩
abbrev S2x512 : Shape := ⟨2, ![2, 512]⟩
abbrev S1x2x512 : Shape := ⟨3, ![1, 2, 512]⟩
abbrev S32x2x512 : Shape := ⟨3, ![32, 2, 512]⟩
abbrev S64x512 : Shape := ⟨2, ![64, 512]⟩
abbrev S8x256 : Shape := ⟨2, ![8, 256]⟩

abbrev nBuf : Space → Nat
  | .hbm => 12
  | .vmem => 13
  | .smem => 0
  | _ => 0

abbrev bufTy : (tb : Table) → Fin (tcTables nBuf tb) → BufTy
  | .hbm, ⟨0, _⟩ => ⟨S8x1x4608, .bf16⟩
  | .hbm, ⟨1, _⟩ => ⟨S73728x2304, .i8⟩
  | .hbm, ⟨2, _⟩ => ⟨S73728x18, .i16⟩
  | .hbm, ⟨3, _⟩ => ⟨S73728x18, .i16⟩
  | .hbm, ⟨4, _⟩ => ⟨S73728x18x12, .i8⟩
  | .hbm, ⟨5, _⟩ => ⟨S8x72x2x32, .bf16⟩
  | .hbm, ⟨6, _⟩ => ⟨S8x72x32x2, .bf16⟩
  | .hbm, ⟨7, _⟩ => ⟨S8x4608, .bf16⟩
  | .hbm, ⟨8, _⟩ => ⟨S18x12x73728, .i8⟩
  | .hbm, ⟨9, _⟩ => ⟨S18x73728, .i16⟩
  | .hbm, ⟨10, _⟩ => ⟨S18x73728, .i16⟩
  | .hbm, ⟨11, _⟩ => ⟨S8x73728, .bf16⟩
  | .local _ .vmem, ⟨0, _⟩ => ⟨S8x4608, .bf16⟩
  | .local _ .vmem, ⟨1, _⟩ => ⟨S2048x2304, .i8⟩
  | .local _ .vmem, ⟨2, _⟩ => ⟨S2048x2304, .i8⟩
  | .local _ .vmem, ⟨3, _⟩ => ⟨S18x12x2048, .i8⟩
  | .local _ .vmem, ⟨4, _⟩ => ⟨S18x12x2048, .i8⟩
  | .local _ .vmem, ⟨5, _⟩ => ⟨S18x2048, .i16⟩
  | .local _ .vmem, ⟨6, _⟩ => ⟨S18x2048, .i16⟩
  | .local _ .vmem, ⟨7, _⟩ => ⟨S18x2048, .i16⟩
  | .local _ .vmem, ⟨8, _⟩ => ⟨S18x2048, .i16⟩
  | .local _ .vmem, ⟨9, _⟩ => ⟨S8x2048, .bf16⟩
  | .local _ .vmem, ⟨10, _⟩ => ⟨S8x2048, .bf16⟩
  | .local _ .vmem, ⟨11, _⟩ => ⟨S72x2048, .i32⟩
  | .local _ .vmem, ⟨12, _⟩ => ⟨S72x2048, .i32⟩
  | _, _ => ⟨S8x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x12x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x2048 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x2048 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S72x2x2048 : Shape := ⟨3, ![72, 2, 2048]⟩
abbrev S72x1x2048 : Shape := ⟨3, ![72, 1, 2048]⟩
abbrev S1x2x2048 : Shape := ⟨3, ![1, 2, 2048]⟩
abbrev S1x1x2048 : Shape := ⟨3, ![1, 1, 2048]⟩
abbrev S72x2x512 : Shape := ⟨3, ![72, 2, 512]⟩
abbrev S72x1x512 : Shape := ⟨3, ![72, 1, 512]⟩
  | .local _ .vmem, ⟨11, _⟩ => ⟨S72x2x2048, .bf16⟩
  | .local _ .vmem, ⟨12, _⟩ => ⟨S72x2x2048, .bf16⟩
variable {F : FTy → Type} [FloatOps F]
-- ==== ReferenceIdeal.lean ====
abbrev S8x1x4608 : Shape := ⟨3, ![8, 1, 4608]⟩
abbrev S73728x2304 : Shape := ⟨2, ![73728, 2304]⟩
abbrev S73728x18 : Shape := ⟨2, ![73728, 18]⟩
abbrev S73728x18x12 : Shape := ⟨3, ![73728, 18, 12]⟩
abbrev S73728x72x32 : Shape := ⟨3, ![73728, 72, 32]⟩
abbrev S_ : Shape := ⟨0, ![]⟩
abbrev S73728x18x4 : Shape := ⟨3, ![73728, 18, 4]⟩
abbrev S73728x18x8 : Shape := ⟨3, ![73728, 18, 8]⟩
abbrev S73728x18x1 : Shape := ⟨3, ![73728, 18, 1]⟩
abbrev S73728x72x2 : Shape := ⟨3, ![73728, 72, 2]⟩
abbrev S73728x72x1 : Shape := ⟨3, ![73728, 72, 1]⟩
abbrev S8x1x72x2x32 : Shape := ⟨5, ![8, 1, 72, 2, 32]⟩
abbrev S8x1x72x1x32 : Shape := ⟨5, ![8, 1, 72, 1, 32]⟩
abbrev S8x1x72x32 : Shape := ⟨4, ![8, 1, 72, 32]⟩
abbrev S8x1x73728 : Shape := ⟨3, ![8, 1, 73728]⟩
abbrev S8x73728 : Shape := ⟨2, ![8, 73728]⟩

abbrev nBuf : Space → Nat
  | .hbm => 161
  | .vmem => 0
  | .smem => 0
  | _ => 0

abbrev hbmTy0_0 (i : Nat) : BufTy := match i % 128 with
  | 0 => ⟨S8x1x4608, .bf16⟩
  | 1 => ⟨S73728x2304, .i8⟩
  | 2 => ⟨S73728x18, .i16⟩
  | 3 => ⟨S73728x18, .i16⟩
  | 4 => ⟨S73728x18x12, .i8⟩
  | 5 => ⟨S73728x2304, .i32⟩
  | 6 => ⟨S73728x72x32, .i32⟩
  | 7 => ⟨S_, .i32⟩
  | 8 => ⟨S73728x72x32, .i32⟩
  | 9 => ⟨S73728x72x32, .i32⟩
  | 10 => ⟨S73728x72x32, .bf16⟩
  | 11 => ⟨S_, .i32⟩
  | 12 => ⟨S73728x72x32, .i32⟩
  | 13 => ⟨S73728x72x32, .i32⟩
  | 14 => ⟨S73728x72x32, .bf16⟩
  | 15 => ⟨S73728x18x12, .i32⟩
  | 16 => ⟨S73728x18x4, .i32⟩
  | 17 => ⟨S73728x18x4, .i32⟩
  | 18 => ⟨S73728x18x4, .i32⟩
  | 19 => ⟨S_, .i32⟩
  | 20 => ⟨S73728x18x4, .i32⟩
  | 21 => ⟨S73728x18x4, .i32⟩
  | 22 => ⟨S_, .i32⟩
  | 23 => ⟨S73728x18x4, .i32⟩
  | 24 => ⟨S73728x18x4, .i32⟩
  | 25 => ⟨S_, .i32⟩
  | 26 => ⟨S73728x18x4, .i32⟩
  | 27 => ⟨S73728x18x4, .i32⟩
  | 28 => ⟨S_, .i32⟩
  | 29 => ⟨S73728x18x4, .i32⟩
  | 30 => ⟨S73728x18x4, .i32⟩
  | 31 => ⟨S_, .i32⟩
  | 32 => ⟨S73728x18x4, .i32⟩
  | 33 => ⟨S73728x18x4, .i32⟩
  | 34 => ⟨S73728x18x4, .i32⟩
  | 35 => ⟨S_, .i32⟩
  | 36 => ⟨S73728x18x4, .i32⟩
  | 37 => ⟨S73728x18x4, .i32⟩
  | 38 => ⟨S_, .i32⟩
  | 39 => ⟨S73728x18x4, .i32⟩
  | 40 => ⟨S73728x18x4, .i32⟩
  | 41 => ⟨S_, .i32⟩
  | 42 => ⟨S73728x18x4, .i32⟩
  | 43 => ⟨S73728x18x4, .i32⟩
  | 44 => ⟨S73728x18x4, .i32⟩
  | 45 => ⟨S73728x18x8, .i32⟩
  | 46 => ⟨S73728x18x8, .i32⟩
  | 47 => ⟨S73728x18, .i32⟩
  | 48 => ⟨S_, .i32⟩
  | 49 => ⟨S73728x18, .i32⟩
  | 50 => ⟨S73728x18, .i32⟩
  | 51 => ⟨S_, .i32⟩
  | 52 => ⟨S73728x18, .i32⟩
  | 53 => ⟨S73728x18, .i32⟩
  | 54 => ⟨S_, .i32⟩
  | 55 => ⟨S73728x18, .i32⟩
  | 56 => ⟨S73728x18, .i32⟩
  | 57 => ⟨S_, .i32⟩
  | 58 => ⟨S73728x18, .i32⟩
  | 59 => ⟨S73728x18, .i1⟩
  | 60 => ⟨S_, .i32⟩
  | 61 => ⟨S73728x18, .i32⟩
  | 62 => ⟨S73728x18, .i32⟩
  | 63 => ⟨S73728x18, .i32⟩
  | 64 => ⟨S73728x18, .f32⟩
  | 65 => ⟨S_, .i32⟩
  | 66 => ⟨S73728x18, .i32⟩
  | 67 => ⟨S73728x18, .i32⟩
  | 68 => ⟨S_, .i32⟩
  | 69 => ⟨S73728x18, .i32⟩
  | 70 => ⟨S73728x18, .i32⟩
  | 71 => ⟨S_, .i32⟩
  | 72 => ⟨S73728x18, .i32⟩
  | 73 => ⟨S73728x18, .i32⟩
  | 74 => ⟨S73728x18, .f32⟩
  | 75 => ⟨S73728x18, .f32⟩
  | 76 => ⟨S_, .f32⟩
  | 77 => ⟨S73728x18, .f32⟩
  | 78 => ⟨S73728x18, .f32⟩
  | 79 => ⟨S_, .i32⟩
  | 80 => ⟨S73728x18, .i32⟩
  | 81 => ⟨S73728x18, .i32⟩
  | 82 => ⟨S_, .i32⟩
  | 83 => ⟨S73728x18, .i32⟩
  | 84 => ⟨S73728x18, .i1⟩
  | 85 => ⟨S73728x18, .f32⟩
  | 86 => ⟨S73728x18, .f32⟩
  | 87 => ⟨S73728x18x1, .f32⟩
  | 88 => ⟨S73728x18x8, .f32⟩
  | 89 => ⟨S73728x18x8, .f32⟩
  | 90 => ⟨S73728x18x8, .f32⟩
  | 91 => ⟨S73728x18x8, .bf16⟩
  | 92 => ⟨S73728x18, .i32⟩
  | 93 => ⟨S_, .i32⟩
  | 94 => ⟨S73728x18, .i32⟩
  | 95 => ⟨S73728x18, .i32⟩
  | 96 => ⟨S_, .i32⟩
  | 97 => ⟨S73728x18, .i32⟩
  | 98 => ⟨S73728x18, .i32⟩
  | 99 => ⟨S_, .i32⟩
  | 100 => ⟨S73728x18, .i32⟩
  | 101 => ⟨S73728x18, .i32⟩
  | 102 => ⟨S_, .i32⟩
  | 103 => ⟨S73728x18, .i32⟩
  | 104 => ⟨S73728x18, .i1⟩
  | 105 => ⟨S_, .i32⟩
  | 106 => ⟨S73728x18, .i32⟩
  | 107 => ⟨S73728x18, .i32⟩
  | 108 => ⟨S73728x18, .i32⟩
  | 109 => ⟨S73728x18, .f32⟩
  | 110 => ⟨S_, .i32⟩
  | 111 => ⟨S73728x18, .i32⟩
  | 112 => ⟨S73728x18, .i32⟩
  | 113 => ⟨S_, .i32⟩
  | 114 => ⟨S73728x18, .i32⟩
  | 115 => ⟨S73728x18, .i32⟩
  | 116 => ⟨S_, .i32⟩
  | 117 => ⟨S73728x18, .i32⟩
  | 118 => ⟨S73728x18, .i32⟩
  | 119 => ⟨S73728x18, .f32⟩
  | 120 => ⟨S73728x18, .f32⟩
  | 121 => ⟨S_, .f32⟩
  | 122 => ⟨S73728x18, .f32⟩
  | 123 => ⟨S73728x18, .f32⟩
  | 124 => ⟨S_, .i32⟩
  | 125 => ⟨S73728x18, .i32⟩
  | 126 => ⟨S73728x18, .i32⟩
  | 127 => ⟨S_, .i32⟩
  | _ => ⟨S8x1x4608, .bf16⟩

abbrev hbmTy0_1 (i : Nat) : BufTy := match i % 128 with
  | 0 => ⟨S73728x18, .i32⟩
  | 1 => ⟨S73728x18, .i1⟩
  | 2 => ⟨S73728x18, .f32⟩
  | 3 => ⟨S73728x18, .f32⟩
  | 4 => ⟨S73728x18x1, .f32⟩
  | 5 => ⟨S73728x18x8, .f32⟩
  | 6 => ⟨S73728x18x8, .f32⟩
  | 7 => ⟨S73728x18x8, .f32⟩
  | 8 => ⟨S73728x18x8, .bf16⟩
  | 9 => ⟨S73728x72x2, .bf16⟩
  | 10 => ⟨S73728x72x2, .bf16⟩
  | 11 => ⟨S73728x72x1, .bf16⟩
  | 12 => ⟨S73728x72x32, .bf16⟩
  | 13 => ⟨S73728x72x32, .bf16⟩
  | 14 => ⟨S73728x72x1, .bf16⟩
  | 15 => ⟨S73728x72x32, .bf16⟩
  | 16 => ⟨S73728x72x32, .bf16⟩
  | 17 => ⟨S73728x72x1, .bf16⟩
  | 18 => ⟨S73728x72x32, .bf16⟩
  | 19 => ⟨S73728x72x32, .bf16⟩
  | 20 => ⟨S73728x72x1, .bf16⟩
  | 21 => ⟨S73728x72x32, .bf16⟩
  | 22 => ⟨S73728x72x32, .bf16⟩
  | 23 => ⟨S8x1x72x2x32, .bf16⟩
  | 24 => ⟨S8x1x72x1x32, .bf16⟩
  | 25 => ⟨S8x1x72x32, .bf16⟩
  | 26 => ⟨S8x1x72x1x32, .bf16⟩
  | 27 => ⟨S8x1x72x32, .bf16⟩
  | 28 => ⟨S8x1x73728, .f32⟩
  | 29 => ⟨S8x1x73728, .f32⟩
  | 30 => ⟨S8x1x73728, .f32⟩
  | 31 => ⟨S8x1x73728, .bf16⟩
  | 32 => ⟨S8x73728, .bf16⟩
  | _ => ⟨S8x1x4608, .bf16⟩

abbrev hbmTy (i : Nat) : BufTy := match i / 128 with
  | 0 => hbmTy0_0 i
  | 1 => hbmTy0_1 i
  | _ => ⟨S8x1x4608, .bf16⟩

abbrev bufTy : (tb : Table) → Fin (tcTables nBuf tb) → BufTy
  | .hbm, ⟨i, _⟩ => hbmTy i
  | _, _ => ⟨S8x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_c_12 : Ref sig .tc := ⟨.hbm, 57, rfl⟩
abbrev main_v39 : Ref sig .tc := ⟨.hbm, 58, rfl⟩
abbrev main_v40 : Ref sig .tc := ⟨.hbm, 59, rfl⟩
abbrev main_c_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_14 : Ref sig .tc := ⟨.hbm, 65, rfl⟩
abbrev main_v45 : Ref sig .tc := ⟨.hbm, 66, rfl⟩
abbrev main_v46 : Ref sig .tc := ⟨.hbm, 67, rfl⟩
abbrev main_c_15 : Ref sig .tc := ⟨.hbm, 68, rfl⟩
abbrev main_v47 : Ref sig .tc := ⟨.hbm, 69, rfl⟩
abbrev main_v48 : Ref sig .tc := ⟨.hbm, 70, rfl⟩
abbrev main_c_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst : Ref sig .tc := ⟨.hbm, 76, rfl⟩
abbrev main_v53 : Ref sig .tc := ⟨.hbm, 77, rfl⟩
abbrev main_v54 : Ref sig .tc := ⟨.hbm, 78, rfl⟩
abbrev main_c_17 : Ref sig .tc := ⟨.hbm, 79, rfl⟩
abbrev main_v55 : Ref sig .tc := ⟨.hbm, 80, rfl⟩
abbrev main_v56 : Ref sig .tc := ⟨.hbm, 81, rfl⟩
abbrev main_c_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_19 : Ref sig .tc := ⟨.hbm, 93, rfl⟩
abbrev main_v67 : Ref sig .tc := ⟨.hbm, 94, rfl⟩
abbrev main_v68 : Ref sig .tc := ⟨.hbm, 95, rfl⟩
abbrev main_c_20 : Ref sig .tc := ⟨.hbm, 96, rfl⟩
abbrev main_v69 : Ref sig .tc := ⟨.hbm, 97, rfl⟩
abbrev main_v70 : Ref sig .tc := ⟨.hbm, 98, rfl⟩
abbrev main_c_21 : Ref sig .tc := ⟨.hbm, 99, rfl⟩
abbrev main_v71 : Ref sig .tc := ⟨.hbm, 100, rfl⟩
abbrev main_v72 : Ref sig .tc := ⟨.hbm, 101, rfl⟩
abbrev main_c_22 : Ref sig .tc := ⟨.hbm, 102, rfl⟩
abbrev main_v73 : Ref sig .tc := ⟨.hbm, 103, rfl⟩
abbrev main_v74 : Ref sig .tc := ⟨.hbm, 104, rfl⟩
abbrev main_c_23 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_24 : Ref sig .tc := ⟨.hbm, 110, rfl⟩
abbrev main_v79 : Ref sig .tc := ⟨.hbm, 111, rfl⟩
abbrev main_v80 : Ref sig .tc := ⟨.hbm, 112, rfl⟩
abbrev main_c_25 : Ref sig .tc := ⟨.hbm, 113, rfl⟩
abbrev main_v81 : Ref sig .tc := ⟨.hbm, 114, rfl⟩
abbrev main_v82 : Ref sig .tc := ⟨.hbm, 115, rfl⟩
abbrev main_c_26 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_27 : Ref sig .tc := ⟨.hbm, 121, rfl⟩
abbrev main_v87 : Ref sig .tc := ⟨.hbm, 122, rfl⟩
abbrev main_v88 : Ref sig .tc := ⟨.hbm, 123, rfl⟩
abbrev main_c_28 : Ref sig .tc := ⟨.hbm, 124, rfl⟩
abbrev main_v89 : Ref sig .tc := ⟨.hbm, 125, rfl⟩
abbrev main_v90 : Ref sig .tc := ⟨.hbm, 126, rfl⟩
abbrev main_c_29 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩

abbrev nD : Nat := 1
abbrev τ : Topo := Topo.v7x

variable {F : FTy → Type} [FloatOps F]
-- ==== Proof.Body.lean ====
/- What one grid step of the ideal kernel stores, written once for all rows and chunks.

   The generated run of the body (`kernelRun0_A`) lists its stores one after another, each with its own printed
   value. Here the same stores are a list over the 72 scratch rows, and over the 4 column chunks, of one row and one
   chunk written with an index. -/
module

public import proofs.«01_k».proof.Proof.Gen.KernelIdeal.Value

@[expose] public section

set_option maxRecDepth 16384

noncomputable section

namespace Cert.KernelIdeal.Gen

open Idealize.ShloMosaic Idealize.ShloMosaic.TcCoe

variable {F : FTy → Type} [FloatOps F]

/-- Row `sb` of a block of 18 rows. -/
def rowOf (g : FVec F S18x2048 .f32) (sb : Fin 18) : FVec F S1x2048 .f32 :=
  extractStridedSlice S1x2048 ![sb.val, 0] g (by revert sb; decide)

/-- The word of four 6-bit scales of one super-block: half 0 holds sub-blocks 0 to 3, half 1 sub-blocks 4 to 7. -/
def scaleWord (w : Vec F S1x12x2048 .i8) (h : Nat) : IVec S1x2048 32 := if h = 0 then k0_pay12 w else k0_pay14 w

/-- The word of four 6-bit mins of one super-block, by the same halves. -/
def minWord (w : Vec F S1x12x2048 .i8) (h : Nat) : IVec S1x2048 32 := if h = 0 then k0_pay13 w else k0_pay15 w

/-- One row of scratch: the byte of the words `v` at bit `j`, as a number, times the factors `g`. -/
def entryRow (v : IVec S1x2048 32) (g : FVec F S1x2048 .f32) (j : Nat) : FVec F S1x2048 .bf16 :=
  truncf .bf16 (mulf (sitofp .f32 (andi (shrui v (broadcast S1x2048 (BitVec.ofNat 32 j))) (broadcast S1x2048 255#32))) g)

/-- Two rows of scratch, stored together: bytes `2p` and `2p + 1` of the words. -/
def tile (v : IVec S1x2048 32) (g : FVec F S1x2048 .f32) (p : Nat) : Vec F S1x2x2048 .bf16 :=
  interleaveRows S1x2x2048 (shapeCast S1x1x2048 (entryRow v g (16 * p)) shapeCasts_S1x2048_S1x1x2048)
    (shapeCast S1x1x2048 (entryRow v g (16 * p + 8)) shapeCasts_S1x2048_S1x1x2048) bitcasts_S1x2x2048_w16_S1x1x2048_w32

/-- The row pair `r` of a scratch buffer. -/
def rowRect (r : Fin 72) : Rect S72x2x2048 :=
  Rect.unit (s := S72x2x2048) ![r.val, 0, 0] S1x2x2048.size (by revert r; decide)

/-- The twelve bytes of super-block `sb`, for the step's 2048 columns. -/
def bytesRect (sb : Nat) (h : sb < 18) : Rect S18x12x2048 :=
  Rect.unit (s := S18x12x2048) ![sb, 0, 0] S1x12x2048.size (by
    intro a; fin_cases a
    · show sb + 1 ≤ 18; omega
    · show 0 + 12 ≤ 12; omega
    · show 0 + 2048 ≤ 2048; omega)

section
variable (arg1 : Memref sig .tc .vmem S8x4608 .bf16) (harg1 : arg1.IsWhole)
  (arg2 : Memref sig .tc .vmem S2048x2304 .i8) (harg2 : arg2.IsWhole)
  (arg3 : Memref sig .tc .vmem S18x12x2048 .i8) (harg3 : arg3.IsWhole)
  (x0 : Vec F S8x4608 .bf16) (x1 : Vec F S2048x2304 .i8) (x2 : Vec F S18x12x2048 .i8)

/-- The load of the twelve bytes of the super-block that scratch row pair `r` belongs to. -/
def bytesAt (r : Fin 72) : Vec F S1x12x2048 .i8 :=
  View.readAt (Elt F) arg3.view (bytesRect (r.val / 4) (by omega)).toLoadRect (harg3.unread x2)

/-- What is stored in row pair `r` of the scales' scratch, and of the mins', from the words of each half. -/
def rowTile (word : Vec F S1x12x2048 .i8 → Nat → IVec S1x2048 32) (g : FVec F S18x2048 .f32) (r : Fin 72) :
    Vec F S1x2x2048 .bf16 :=
  tile (word (bytesAt arg3 harg3 x2 r) (r.val / 2 % 2)) (rowOf g ⟨r.val / 4, by omega⟩) (r.val % 2)

/-- The 72 stores of one scratch buffer, last first. -/
def scratchPieces (word : Vec F S1x12x2048 .i8 → Nat → IVec S1x2048 32) (g : FVec F S18x2048 .f32) :
    List (View.Piece (Elt F) S72x2x2048 .bf16) :=
  (List.finRange 72).reverse.map fun r => ⟨rowRect r, rowTile arg3 harg3 x2 word g r⟩

/-- The two scratch rows `2r` and `2r + 1` of a chunk, repeated in turn over the 64 weight rows they scale. -/
def spread (a : FVec F S144x512 .bf16) (r : Fin 72) : FVec F S64x512 .bf16 :=
  shapeCast S64x512 (broadcastTo S32x2x512 (shapeCast S1x2x512 (shapeCast S1x2x512
    (extractStridedSlice S2x512 ![2 * r.val, 0] a (by revert r; decide))
    shapeCasts_S2x512_S1x2x512) shapeCasts_S1x2x512_S1x2x512) broadcasts_S1x2x512_S32x2x512) shapeCasts_S32x2x512_S64x512

/-- 64 rows of a chunk's weights: the codes times the scales less the offsets. -/
def part (w : FVec F S256x512 .bf16) (s o : FVec F S144x512 .bf16) (k : Fin 18) (g : Fin 4) : FVec F S64x512 .bf16 :=
  subf (mulf (extractStridedSlice S64x512 ![64 * g.val, 0] w (by revert g; decide)) (spread s ⟨4 * k.val + g.val, by omega⟩))
    (spread o ⟨4 * k.val + g.val, by omega⟩)

/-- The 256 weight rows of one slice of the contraction. -/
def weights (w : FVec F S256x512 .bf16) (s o : FVec F S144x512 .bf16) (k : Fin 18) : FVec F S256x512 .bf16 :=
  concatenate S256x512 0 [⟨S64x512, part w s o k 0⟩, ⟨S64x512, part w s o k 1⟩, ⟨S64x512, part w s o k 2⟩, ⟨S64x512, part w s o k 3⟩]
    concatenates_S64x512_S64x512_S64x512_S64x512_S256x512_d0

/-- The packed codes of chunk `c`'s 512 columns and slice `k`'s 128 bytes. -/
def codesRect (c : Fin 4) (k : Fin 18) : Rect S2048x2304 :=
  Rect.unit (s := S2048x2304) ![512 * c.val, 128 * k.val] S512x128.size (by
    intro a; fin_cases a
    · show 512 * c.val + 512 ≤ 2048; omega
    · show 128 * k.val + 128 ≤ 2304; omega)

/-- Slice `k` of the activations. -/
def xRect (k : Fin 18) : Rect S8x4608 :=
  Rect.unit (s := S8x4608) ![0, 256 * k.val] S8x256.size (by
    intro a; fin_cases a
    · show 0 + 8 ≤ 8; omega
    · show 256 * k.val + 256 ≤ 4608; omega)

/-- Chunk `c`'s columns of a scratch buffer. -/
def scratchRect (c : Fin 4) : Rect S72x2x2048 :=
  Rect.unit (s := S72x2x2048) ![0, 0, 512 * c.val] S72x2x512.size (by
    intro a; fin_cases a
    · show 0 + 72 ≤ 72; omega
    · show 0 + 2 ≤ 2; omega
    · show 512 * c.val + 512 ≤ 2048; omega)

/-- Chunk `c`'s columns of the output block. -/
def outRect (c : Fin 4) : Rect S8x2048 :=
  Rect.unit (s := S8x2048) ![0, 512 * c.val] S8x512.size (by
    intro a; fin_cases a
    · show 0 + 8 ≤ 8; omega
    · show 512 * c.val + 512 ≤ 2048; omega)

/-- One step of a chunk's accumulation: the slice's product is added. -/
def step (s o : FVec F S144x512 .bf16) (c : Fin 4) (acc : FVec F S8x512 .f32) (k : Fin 18) : FVec F S8x512 .f32 :=
  addf acc (matmul dot_S8x256_S256x512_S8x512_1_0_0_1_n_n none
    (shapeCast S8x256 (View.readAt (Elt F) arg1.view (xRect k).toLoadRect (harg1.unread x0)) shapeCasts_S8x256_S8x256 : FVec F S8x256 .bf16)
    (weights (k0_pay541 (View.readAt (Elt F) arg2.view (codesRect c k).toLoadRect (harg2.unread x1))) s o k)
    (constant S8x512 .f32 0x00000000#32))

/-- A chunk of the output: the 18 slices' products summed from zero. -/
def chunk (s o : FVec F S144x512 .bf16) (c : Fin 4) : FVec F S8x512 .bf16 :=
  truncf .bf16 ((List.finRange 18).foldl (step arg1 harg1 arg2 harg2 x0 x1 s o c) k0_pay532)

end

/-- The scales' scratch is stored row pair by row pair. -/
theorem scale_pieces (c : Dev nD) (arg3 : Memref sig .tc .vmem S18x12x2048 .i8) (harg3 : arg3.IsWhole)
    (arg4 : Memref sig .tc .vmem S18x2048 .i16) (harg4 : arg4.IsWhole) (x2 : Vec F S18x12x2048 .i8) (x3 : Vec F S18x2048 .i16) :
    kernelRun0_A.sl.HS0_72 c arg3 harg3 arg4 harg4 x2 x3 = scratchPieces arg3 harg3 x2 scaleWord (kernelRun0_A.sl.r c arg4 harg4 x3) := by
  rfl

/-- The mins' scratch likewise. -/
theorem min_pieces (c : Dev nD) (arg3 : Memref sig .tc .vmem S18x12x2048 .i8) (harg3 : arg3.IsWhole)
    (arg5 : Memref sig .tc .vmem S18x2048 .i16) (harg5 : arg5.IsWhole) (x2 : Vec F S18x12x2048 .i8) (x4 : Vec F S18x2048 .i16) :
    kernelRun0_A.sl.HS1_72 c arg3 harg3 arg5 harg5 x2 x4 = scratchPieces arg3 harg3 x2 minWord (kernelRun0_A.sl.r_3 c arg5 harg5 x4) := by
  rfl

/-- A scratch buffer's columns of chunk `c`, as 144 rows, when its 72 stores are `L`. -/
def scratchRows (arg : Memref sig .tc .vmem S72x2x2048 .bf16) (L : List (View.Piece (Elt F) S72x2x2048 .bf16)) (c : Fin 4) :
    FVec F S144x512 .bf16 :=
  k0_pay530 (arg.view.readCov L (scratchRect c).toLoadRect)

/-- The output block is stored chunk by chunk. -/
theorem out_pieces (c : Dev nD) (i : grid0.Coords) (arg1 : Memref sig .tc .vmem S8x4608 .bf16) (harg1 : arg1.IsWhole) (arg2 : Memref sig .tc .vmem S2048x2304 .i8) (harg2 : arg2.IsWhole)
    (arg3 : Memref sig .tc .vmem S18x12x2048 .i8) (harg3 : arg3.IsWhole) (arg4 : Memref sig .tc .vmem S18x2048 .i16) (harg4 : arg4.IsWhole)
    (arg5 : Memref sig .tc .vmem S18x2048 .i16) (harg5 : arg5.IsWhole) (arg6 : Memref sig .tc .vmem S8x2048 .bf16) (harg6 : arg6.IsWhole)
    (arg7 : Memref sig .tc .vmem S72x2x2048 .bf16) (harg7 : arg7.IsWhole) (arg8 : Memref sig .tc .vmem S72x2x2048 .bf16) (harg8 : arg8.IsWhole)
    (x0 : Vec F S8x4608 .bf16) (x1 : Vec F S2048x2304 .i8) (x2 : Vec F S18x12x2048 .i8) (x3 : Vec F S18x2048 .i16) (x4 : Vec F S18x2048 .i16) :
    (kernelRun0_A c i arg1 harg1 arg2 harg2 arg3 harg3 arg4 harg4 arg5 harg5 arg6 harg6 arg7 harg7 arg8 harg8 x0 x1 x2 x3 x4).1 =
      (List.finRange 4).reverse.map fun k => ⟨outRect k, chunk arg1 harg1 arg2 harg2 x0 x1
        (scratchRows arg7 (kernelRun0_A.sl.HS0_72 c arg3 harg3 arg4 harg4 x2 x3) k)
        (scratchRows arg8 (kernelRun0_A.sl.HS1_72 c arg3 harg3 arg5 harg5 x2 x4) k) k⟩ := by
  rfl

end Cert.KernelIdeal.Gen

end
-- ==== Proof.Chunk.lean ====
/- One grid step of the ideal kernel, read at an index over the extended reals. -/
module

public import proofs.«01_k».proof.Proof.Body
public import Idealize.ShloMosaic.Lib.Pointwise

@[expose] public section

set_option maxRecDepth 16384

noncomputable section

namespace Cert.KernelIdeal.Gen

open Idealize.ShloMosaic Idealize.ShloMosaic.TcCoe

/-- A byte's low four bits, or its high four. -/
def nibble (b : BitVec 8) (h : Nat) : BitVec 32 :=
  if h = 0 then IntOp.andi (b.setWidth 32) 15#32 else IntOp.shrsi .vector (b.setWidth 32) 4#32

/-- The codes of a slice: row `t` holds the low (`t` even) or high (`t` odd) half of byte `t / 2`. -/
theorem codes_apply (q : Vec Ideal S512x128 .i8) (t : Fin 256) (l : Fin 512) :
    k0_pay541 q (ix2 t l) = FloatOps.sitofp (F := Ideal) .bf16 (nibble (q (ix2 l ⟨t.val / 2, by omega⟩)) (t.val % 2)) := by
  pointwise [k0_pay541]
  unfold nibble
  by_cases h : t.val % 2 = 0
  · rw [dif_pos (by omega), if_pos h]
  · rw [dif_neg (by omega), if_neg h]

/-- A weight row of one part: its code times its scale, less its offset. -/
theorem part_apply (w : FVec Ideal S256x512 .bf16) (s o : FVec Ideal S144x512 .bf16) (k : Fin 18) (g : Fin 4) (t : Fin 64) (l : Fin 512) :
    part w s o k g (ix2 t l) = w (ix2 ⟨64 * g.val + t.val, by omega⟩ l) * s (ix2 ⟨2 * (4 * k.val + g.val) + t.val % 2, by omega⟩ l)
      - o (ix2 ⟨2 * (4 * k.val + g.val) + t.val % 2, by omega⟩ l) := by
  pointwise [part, spread]

/-- The same for the four parts joined. -/
theorem weights_apply (w : FVec Ideal S256x512 .bf16) (s o : FVec Ideal S144x512 .bf16) (k : Fin 18) (t : Fin 256) (l : Fin 512) :
    weights w s o k (ix2 t l) = w (ix2 t l) * s (ix2 ⟨8 * k.val + 2 * (t.val / 64) + t.val % 2, by omega⟩ l)
      - o (ix2 ⟨8 * k.val + 2 * (t.val / 64) + t.val % 2, by omega⟩ l) := by
  have key : ∀ (g : Fin 4) (u : Fin 64), t.val = 64 * g.val + u.val → part w s o k g (ix2 u l) =
      w (ix2 t l) * s (ix2 ⟨8 * k.val + 2 * (t.val / 64) + t.val % 2, by omega⟩ l)
        - o (ix2 ⟨8 * k.val + 2 * (t.val / 64) + t.val % 2, by omega⟩ l) := by
    intro g u h
    have e1 : (⟨64 * g.val + u.val, by omega⟩ : Fin 256) = t := Fin.ext h.symm
    have e2 : (⟨2 * (4 * k.val + g.val) + u.val % 2, by omega⟩ : Fin 144) = ⟨8 * k.val + 2 * (t.val / 64) + t.val % 2, by omega⟩ := by
      apply Fin.ext; show 2 * (4 * k.val + g.val) + u.val % 2 = 8 * k.val + 2 * (t.val / 64) + t.val % 2; omega
    rw [part_apply, e1, e2]
  pointwise [weights]
  by_cases h0 : t.val < 64
  · rw [dif_pos h0]; exact key 0 _ (by show t.val = 64 * 0 + t.val; omega)
  · rw [dif_neg h0]
    by_cases h1 : t.val - 64 < 64
    · rw [dif_pos h1]; exact key 1 _ (by show t.val = 64 * 1 + (t.val - 64); omega)
    · rw [dif_neg h1]
      by_cases h2 : t.val - 64 - 64 < 64
      · rw [dif_pos h2]; exact key 2 _ (by show t.val = 64 * 2 + (t.val - 64 - 64); omega)
      · rw [dif_neg h2]; exact key 3 _ (by show t.val = 64 * 3 + (t.val - 64 - 64 - 64); omega)

/-- A slice's product, read at an index. -/
theorem dot_apply (x : FVec Ideal S8x256 .bf16) (w : FVec Ideal S256x512 .bf16) (b : Fin 8) (l : Fin 512) :
    matmul dot_S8x256_S256x512_S8x512_1_0_0_1_n_n none x w (constant S8x512 .f32 0x00000000#32) (ix2 b l)
      = ∑ t : Fin 256, x (ix2 b t) * w (ix2 t l) := by
  pointwise []

/-- A load of a whole-buffer memref through a rectangle reads the contents at the rectangle's index. -/
theorem readAt_unread {κ : Kind} {sp : Space} {s : Shape} {e : EltTy} (a : Memref sig κ sp s e) (ha : a.IsWhole) (x : Vec Ideal s e) (r : Rect s)
    (j : r.shape.Idx) : View.readAt (Elt Ideal) a.view r.toLoadRect (ha.unread x) j = x (r.idx j) := by
  rw [View.readAt_eq_ld, ha.read_unread]

section
variable (arg1 : Memref sig .tc .vmem S8x4608 .bf16) (harg1 : arg1.IsWhole)
  (arg2 : Memref sig .tc .vmem S2048x2304 .i8) (harg2 : arg2.IsWhole)
  (arg3 : Memref sig .tc .vmem S18x12x2048 .i8) (harg3 : arg3.IsWhole)
  (x0 : Vec Ideal S8x4608 .bf16) (x1 : Vec Ideal S2048x2304 .i8) (x2 : Vec Ideal S18x12x2048 .i8)

/-- One accumulation step at an index. -/
theorem step_apply (s o : FVec Ideal S144x512 .bf16) (c : Fin 4) (acc : FVec Ideal S8x512 .f32) (k : Fin 18) (b : Fin 8) (l : Fin 512) :
    step arg1 harg1 arg2 harg2 x0 x1 s o c acc k (ix2 b l) = acc (ix2 b l) + ∑ t : Fin 256, x0 (ix2 b ⟨256 * k.val + t.val, by omega⟩) *
      (FloatOps.sitofp (F := Ideal) .bf16 (nibble (x1 (ix2 ⟨512 * c.val + l.val, by omega⟩ ⟨128 * k.val + t.val / 2, by omega⟩)) (t.val % 2))
        * s (ix2 ⟨8 * k.val + 2 * (t.val / 64) + t.val % 2, by omega⟩ l) - o (ix2 ⟨8 * k.val + 2 * (t.val / 64) + t.val % 2, by omega⟩ l)) := by
  unfold step
  rw [ValueIdx.addf_apply, dot_apply]
  congr 1
  refine Finset.sum_congr rfl fun t _ => ?_
  have e0 : (xRect k).idx (ix2 b t) = ix2 b ⟨256 * k.val + t.val, by omega⟩ := by
    funext a; apply Fin.ext
    match a with
    | ⟨0, _⟩ => show 0 + 1 * b.val = b.val; omega
    | ⟨1, _⟩ => show 256 * k.val + 1 * t.val = 256 * k.val + t.val; omega
  have e1 : (codesRect c k).idx (ix2 l ⟨t.val / 2, by omega⟩) = ix2 ⟨512 * c.val + l.val, by omega⟩ ⟨128 * k.val + t.val / 2, by omega⟩ := by
    funext a; apply Fin.ext
    match a with
    | ⟨0, _⟩ => show 512 * c.val + 1 * l.val = 512 * c.val + l.val; omega
    | ⟨1, _⟩ => show 128 * k.val + 1 * (t.val / 2) = 128 * k.val + t.val / 2; omega
  rw [weights_apply]
  refine congrArg₂ (· * ·) ((congrFun (shapeCast_self _ _) _).trans ((readAt_unread arg1 harg1 x0 (xRect k) (ix2 b t)).trans (congrArg x0 e0))) ?_
  refine congrArg (fun v => v * s (ix2 ⟨8 * k.val + 2 * (t.val / 64) + t.val % 2, by omega⟩ l) - o (ix2 ⟨8 * k.val + 2 * (t.val / 64) + t.val % 2, by omega⟩ l))
    ((codes_apply _ t l).trans (congrArg (fun v => FloatOps.sitofp (F := Ideal) .bf16 (nibble v (t.val % 2))) ?_))
  exact (readAt_unread arg2 harg2 x1 (codesRect c k) (ix2 l ⟨t.val / 2, by omega⟩)).trans (congrArg x1 e1)

/-- Adding one term after another, from an accumulator that starts at `z`, gives `z` plus the sum. -/
theorem foldl_sum {n : Nat} {S : Shape} (f : FVec Ideal S .f32 → Fin n → FVec Ideal S .f32) (z : FVec Ideal S .f32) (j : S.Idx) (g : Fin n → EReal)
    (h : ∀ acc k, f acc k j = acc j + g k) : (List.finRange n).foldl f z j = z j + ∑ k : Fin n, g k := by
  have aux : ∀ (l : List (Fin n)) (z : FVec Ideal S .f32), l.foldl f z j = z j + (l.map g).sum := by
    intro l
    induction l with
    | nil => intro z; exact (add_zero _).symm
    | cons k l ih => intro z; rw [List.foldl_cons, ih, h, List.map_cons, List.sum_cons, add_assoc]
  rw [aux, Fin.sum_univ_def]

/-- A chunk of the output at an index: the whole contraction, slice by slice. -/
theorem chunk_apply (s o : FVec Ideal S144x512 .bf16) (c : Fin 4) (b : Fin 8) (l : Fin 512) :
    chunk arg1 harg1 arg2 harg2 x0 x1 s o c (ix2 b l) = ∑ k : Fin 18, ∑ t : Fin 256, x0 (ix2 b ⟨256 * k.val + t.val, by omega⟩) *
      (FloatOps.sitofp (F := Ideal) .bf16 (nibble (x1 (ix2 ⟨512 * c.val + l.val, by omega⟩ ⟨128 * k.val + t.val / 2, by omega⟩)) (t.val % 2))
        * s (ix2 ⟨8 * k.val + 2 * (t.val / 64) + t.val % 2, by omega⟩ l) - o (ix2 ⟨8 * k.val + 2 * (t.val / 64) + t.val % 2, by omega⟩ l)) := by
  unfold chunk
  rw [ValueIdx.truncf_apply, foldl_sum _ _ _ _ (fun acc k => step_apply arg1 harg1 arg2 harg2 x0 x1 s o c acc k b l)]
  have hz : (k0_pay532 : FVec Ideal S8x512 .f32) (ix2 b l) = 0 := by pointwise [k0_pay532]
  rw [hz, zero_add]

/-- Loaded row pairs laid out row by row. -/
theorem rows_apply (raw : FVec Ideal S72x2x512 .bf16) (t : Fin 144) (l : Fin 512) :
    k0_pay530 raw (ix2 t l) = raw (ix3 ⟨t.val / 2, by omega⟩ ⟨t.val % 2, by omega⟩ l) := by
  pointwise [k0_pay530]
  by_cases h : t.val % 2 = 0
  · rw [if_pos h]; exact congrArg (fun p => raw (ix3 _ p l)) (Fin.ext h.symm)
  · rw [if_neg h]; exact congrArg (fun p => raw (ix3 _ p l)) (Fin.ext (by show 1 = t.val % 2; omega))

/-- The rows of a scratch buffer loaded for a chunk, from the contents of the buffer. -/
theorem scratchRows_apply (arg : Memref sig .tc .vmem S72x2x2048 .bf16) (L : List (View.Piece (Elt Ideal) S72x2x2048 .bf16)) (c : Fin 4)
    (t : Fin 144) (l : Fin 512) :
    scratchRows arg L c (ix2 t l) = View.canon L (ix3 ⟨t.val / 2, by omega⟩ ⟨t.val % 2, by omega⟩ ⟨512 * c.val + l.val, by omega⟩) := by
  unfold scratchRows
  refine (rows_apply _ t l).trans ((congrFun (View.readCov_eq_canon' _ _ _) _).trans (congrArg (View.canon L) ?_))
  funext a; apply Fin.ext
  match a with
  | ⟨0, _⟩ => show 0 + 1 * (t.val / 2) = t.val / 2; omega
  | ⟨1, _⟩ => show 0 + 1 * (t.val % 2) = t.val % 2; omega
  | ⟨2, _⟩ => show 512 * c.val + 1 * l.val = 512 * c.val + l.val; omega

end

end Cert.KernelIdeal.Gen

end
-- ==== Proof.Half.lean ====
/- The number a binary16 pattern stands for, and the two ways it is computed here. -/
module

public import Idealize.ShloMosaic.PureOps.Ideal
public import Idealize.ShloMosaic.PureOps.Ideal.Laws
public import Idealize.ShloMosaic.Lib.IdealHost
public import Mathlib.Data.Nat.Bitwise

@[expose] public section

set_option maxRecDepth 16384

noncomputable section

namespace Cert.Half

open Idealize.ShloMosaic

/-- The magnitude of the pattern with bits `n`: fraction `m`, exponent field `e`. -/
def mag (n : Nat) : ℝ :=
  (((if n / 1024 % 32 = 0 then n % 1024 else 1024 + n % 1024) * 2 ^ (max (n / 1024 % 32) 1 - 1) : ℕ) : ℝ) * (2 : ℝ) ^ (-24 : ℤ)

/-- The number a binary16 pattern stands for, every exponent field read as finite. -/
def half (b : BitVec 16) : EReal :=
  (((if b.toNat / 32768 = 1 then -1 else 1) * mag b.toNat : ℝ) : EReal)

section
variable {F : FTy → Type} [FloatOps F]

/-- The exponent field moved up to binary32's place and rebiased, the pattern read as binary32. -/
def rebased (b : BitVec 16) : F .f32 :=
  Scalar.ofBits .f32 (IntOp.addi (IntOp.shli .vector (IntOp.andi (b.setWidth 32) 32767#32) 13#32) 939524096#32)

/-- The kernel's decoding: the rebased number, or twice it less the least normal number where that is smaller, times the sign. -/
def rebias (b : BitVec 16) : F .f32 :=
  FloatOps.mulf
    (FloatOps.minimumf (rebased b) (FloatOps.subf (FloatOps.addf (rebased b) (rebased b)) (Scalar.ofBits .f32 0x38800000#32)))
    (Scalar.select (IntOp.cmpi .ne (IntOp.andi (b.setWidth 32) 32768#32) 0#32) (Scalar.ofBits .f32 0xBF800000#32)
      (Scalar.ofBits .f32 0x3F800000#32))

/-- The exponent field of a pattern. -/
def expo (b : BitVec 16) : BitVec 32 := IntOp.andi (IntOp.shrsi .host (b.setWidth 32) 10#32) 31#32

/-- The reference's magnitude: significand times power of two. -/
def scaled (b : BitVec 16) : F .f32 :=
  FloatOps.mulf
    (FloatOps.mulf
      (FloatOps.sitofp .f32 (Scalar.select (IntOp.cmpi .eq (expo b) 0#32) (IntOp.andi (b.setWidth 32) 1023#32)
        (IntOp.addi 1024#32 (IntOp.andi (b.setWidth 32) 1023#32))))
      (FloatOps.sitofp .f32 (IntOp.shli .host 1#32 (IntOp.subi (IntOp.maxsi (expo b) 1#32) 1#32))))
    (FloatOps.ofBits .f32 0x33800000#32)

/-- The reference's decoding: the magnitude, negated where the sign bit is set. -/
def decode (b : BitVec 16) : F .f32 :=
  Scalar.select (IntOp.cmpi .eq (IntOp.shrsi .host (b.setWidth 32) 15#32) 1#32) (FloatOps.hostNegf (scaled b)) (scaled b)

end

/-- The word of minus one. -/
theorem ofBits_neg_one : Ideal.ofBits .f32 0xBF800000#32 = ((-1 : ℝ) : EReal) := by
  simp [Ideal.ofBits, Ideal.ieee, -EReal.coe_mul]
  norm_num

/-- The word of the least normal binary16 number. -/
theorem ofBits_least : Ideal.ofBits .f32 0x38800000#32 = ((1024 * (2 : ℝ) ^ (-24 : ℤ) : ℝ) : EReal) := by
  simp [Ideal.ofBits, Ideal.ieee, -EReal.coe_mul]
  norm_num

/-- The word of the least positive binary16 number. -/
theorem ofBits_unit : Ideal.ofBits .f32 0x33800000#32 = (((2 : ℝ) ^ (-24 : ℤ) : ℝ) : EReal) := by
  simp [Ideal.ofBits, Ideal.ieee, -EReal.coe_mul]
  norm_num

/-- The rebased word as a number. -/
theorem rebased_toNat (b : BitVec 16) :
    (IntOp.addi (IntOp.shli .vector (IntOp.andi (b.setWidth 32) 32767#32) 13#32) 939524096#32).toNat
      = b.toNat % 32768 * 8192 + 939524096 := by
  have hb := b.isLt
  have h15 : b.toNat &&& 32767 = b.toNat % 32768 := Nat.and_two_pow_sub_one_eq_mod b.toNat 15
  have e : IntOp.shli .vector (IntOp.andi (b.setWidth 32) 32767#32) 13#32 = (b.setWidth 32 &&& 32767#32) <<< 13 := rfl
  rw [e]
  show ((b.setWidth 32 &&& 32767#32) <<< 13 + 939524096#32).toNat = _
  rw [BitVec.toNat_add, BitVec.toNat_shiftLeft, BitVec.toNat_and, BitVec.toNat_setWidth, Nat.shiftLeft_eq]
  simp only [BitVec.toNat_ofNat]
  rw [Nat.mod_eq_of_lt (a := b.toNat) (by omega), show 32767 % 2 ^ 32 = 32767 from rfl, h15]
  omega

/-- The rebased number: fraction `1024 + m` at exponent `e - 25`. -/
theorem rebased_eq (b : BitVec 16) :
    (rebased b : Ideal .f32) = (((1024 + b.toNat % 1024 : ℕ) * (2 : ℝ) ^ ((b.toNat / 1024 % 32 : ℕ) - 25 : ℤ) : ℝ) : EReal) := by
  have hn := rebased_toNat b
  unfold rebased
  show Ideal.ieee 8 23 (IntOp.addi (IntOp.shli .vector (IntOp.andi (b.setWidth 32) 32767#32) 13#32) 939524096#32) = _
  generalize IntOp.addi (IntOp.shli .vector (IntOp.andi (b.setWidth 32) 32767#32) 13#32) 939524096#32 = w at hn
  have hb := b.isLt
  have hex : (w.extractLsb' 23 8).toNat = b.toNat / 1024 % 32 + 112 := by
    rw [BitVec.extractLsb'_toNat, Nat.shiftRight_eq_div_pow, hn]; omega
  have hfr : (w.extractLsb' 0 23).toNat = b.toNat % 1024 * 8192 := by
    rw [BitVec.extractLsb'_toNat, Nat.shiftRight_eq_div_pow, hn]; omega
  have hneg : (w.extractLsb' (8 + 23) 1 == 1#1) = false := by
    rw [beq_eq_false_iff_ne]
    intro h
    have h' := congrArg BitVec.toNat h
    rw [BitVec.extractLsb'_toNat, Nat.shiftRight_eq_div_pow, hn] at h'
    have : (1#1).toNat = 1 := rfl
    omega
  unfold Ideal.ieee
  simp only [hex, hfr, hneg]
  have hlt : b.toNat / 1024 % 32 < 32 := Nat.mod_lt _ (by decide)
  rw [if_neg (by omega), if_neg (by omega)]
  congr 1
  have h2 : (2 : ℝ) ^ ((b.toNat / 1024 % 32 + 112 : ℕ) - (2 ^ (8 - 1) - 1) - (23 : ℕ) : ℤ)
      = (2 : ℝ) ^ ((b.toNat / 1024 % 32 : ℕ) - 25 : ℤ) * (2 : ℝ) ^ (-13 : ℤ) := by
    rw [← zpow_add₀ (by norm_num)]
    congr 1
    push_cast
    ring
  rw [h2]
  push_cast
  norm_num
  ring

/-- The kernel's decoding gives the pattern's number. -/
theorem rebias_eq (b : BitVec 16) : (rebias b : Ideal .f32) = half b := by
  have hb := b.isLt
  have hsel : (Scalar.select (IntOp.cmpi .ne (IntOp.andi (b.setWidth 32) 32768#32) 0#32) (Scalar.ofBits .f32 0xBF800000#32)
      (Scalar.ofBits .f32 0x3F800000#32) : Ideal .f32) = ((if b.toNat / 32768 = 1 then -1 else 1 : ℝ) : EReal) := by
    have hbit : (IntOp.andi (b.setWidth 32) 32768#32).toNat = b.toNat / 32768 % 2 * 32768 := by
      show (b.setWidth 32 &&& 32768#32).toNat = _
      rw [BitVec.toNat_and, BitVec.toNat_setWidth, Nat.mod_eq_of_lt (a := b.toNat) (by omega)]
      rw [show (32768#32).toNat = 2 ^ 15 from rfl, Nat.and_two_pow, Nat.testBit_eq_decide_div_mod_eq]
      rw [show (2 : Nat) ^ 15 = 32768 from rfl]
      rcases Nat.mod_two_eq_zero_or_one (b.toNat / 32768) with h | h <;> simp [h]
    generalize IntOp.andi (b.setWidth 32) 32768#32 = w at hbit
    show (if BitVec.ofBool (w != 0#32) = 1 then Ideal.ofBits .f32 0xBF800000#32 else Ideal.ofBits .f32 0x3F800000#32) = _
    rw [ofBits_neg_one, Ideal.ofBits_one_f32]
    by_cases h : b.toNat / 32768 = 1
    · have hw : w ≠ 0#32 := fun h' => by rw [h'] at hbit; simp [h] at hbit
      rw [bne_iff_ne.2 hw, if_pos (by decide), if_pos h]
    · have hw : w = 0#32 := by
        apply BitVec.eq_of_toNat_eq
        rw [hbit]
        show _ = 0
        omega
      simp [h, hw]
  unfold rebias
  rw [hsel, rebased_eq]
  show min _ ((_ : EReal) + _ - Ideal.ofBits .f32 0x38800000#32) * _ = _
  rw [ofBits_least, ← EReal.coe_add, ← EReal.coe_sub, ← EReal.coe_strictMono.monotone.map_min, ← EReal.coe_mul]
  unfold half mag
  congr 1
  rw [mul_comm]
  congr 1
  have hm : b.toNat % 1024 < 1024 := Nat.mod_lt _ (by decide)
  generalize b.toNat % 1024 = m at *
  generalize b.toNat / 1024 % 32 = e
  have hm' : (m : ℝ) ≤ 1024 := by exact_mod_cast hm.le
  have hm0 : (0 : ℝ) ≤ m := Nat.cast_nonneg m
  rcases Nat.eq_zero_or_pos e with rfl | he
  · rw [if_pos rfl, show (2 : ℝ) ^ (((0 : ℕ) : ℤ) - 25) = (2 : ℝ) ^ (-24 : ℤ) * (1 / 2) by norm_num]
    have h24 : (0 : ℝ) < (2 : ℝ) ^ (-24 : ℤ) := by positivity
    rw [min_eq_right]
    · push_cast
      simp
      ring
    · push_cast
      nlinarith [mul_le_mul_of_nonneg_right hm' h24.le]
  · obtain ⟨f, rfl⟩ : ∃ f, e = f + 1 := ⟨e - 1, by omega⟩
    rw [if_neg (by omega), Nat.max_eq_left (by omega), Nat.add_sub_cancel]
    have hz : (2 : ℝ) ^ (((f + 1 : ℕ) : ℤ) - 25) = (2 : ℝ) ^ f * (2 : ℝ) ^ (-24 : ℤ) := by
      rw [← zpow_natCast, ← zpow_add₀ (by norm_num)]
      congr 1
      push_cast
      ring
    have h1 : (1 : ℝ) ≤ 2 ^ f := one_le_pow₀ (by norm_num)
    rw [hz, min_eq_left]
    · push_cast
      ring
    · push_cast
      have h24 : (0 : ℝ) < (2 : ℝ) ^ (-24 : ℤ) := by positivity
      nlinarith [mul_le_mul_of_nonneg_right (show (1024 : ℝ) ≤ (1024 + m) * 2 ^ f by nlinarith) h24.le]

/-- A word below `2 ^ 31` as a number. -/
theorem sitofp_ofNat {k : Nat} (h : k < 2 ^ 31) : (FloatOps.sitofp .f32 (BitVec.ofNat 32 k) : Ideal .f32) = ((k : ℝ) : EReal) := by
  show (((BitVec.ofNat 32 k).toInt : ℝ) : EReal) = _
  have e : (BitVec.ofNat 32 k).toInt = (k : ℤ) := by
    rw [BitVec.toInt_eq_toNat_of_lt (by rw [BitVec.toNat_ofNat]; omega), BitVec.toNat_ofNat]
    omega
  rw [e, Int.cast_natCast]

/-- Shifting a word below `2 ^ 31` right divides by a power of two. -/
theorem shrsi_ofNat (u : ArithUnit) {k : Nat} (h : k < 2 ^ 31) (j : Nat) (hj : j < 32) :
    IntOp.shrsi u (BitVec.ofNat 32 k) (BitVec.ofNat 32 j) = BitVec.ofNat 32 (k / 2 ^ j) := by
  have hj' : (BitVec.ofNat 32 j).toNat = j := by rw [BitVec.toNat_ofNat]; omega
  unfold IntOp.shrsi
  rw [if_pos (by omega)]
  apply BitVec.eq_of_toNat_eq
  rw [BitVec.sshiftRight', hj', BitVec.sshiftRight_eq_of_msb_false, BitVec.toNat_ushiftRight, BitVec.toNat_ofNat, BitVec.toNat_ofNat,
    Nat.shiftRight_eq_div_pow, Nat.mod_eq_of_lt (a := k) (by omega), Nat.mod_eq_of_lt]
  · exact lt_of_le_of_lt (Nat.div_le_self _ _) (by omega)
  · rw [BitVec.msb_eq_false_iff_two_mul_lt, BitVec.toNat_ofNat]
    omega

/-- Masking a word with `2 ^ j - 1` takes the remainder. -/
theorem andi_ofNat {k : Nat} (h : k < 2 ^ 32) (j : Nat) (hj : j < 32) :
    IntOp.andi (BitVec.ofNat 32 k) (BitVec.ofNat 32 (2 ^ j - 1)) = BitVec.ofNat 32 (k % 2 ^ j) := by
  have h2 : 2 ^ j < 2 ^ 32 := Nat.pow_lt_pow_right (by decide) hj
  have h0 : 0 < 2 ^ j := Nat.two_pow_pos j
  apply BitVec.eq_of_toNat_eq
  show (BitVec.ofNat 32 k &&& BitVec.ofNat 32 (2 ^ j - 1)).toNat = _
  rw [BitVec.toNat_and, BitVec.toNat_ofNat, BitVec.toNat_ofNat, BitVec.toNat_ofNat, Nat.mod_eq_of_lt h,
    Nat.mod_eq_of_lt (a := 2 ^ j - 1) (by omega), Nat.and_two_pow_sub_one_eq_mod, Nat.mod_eq_of_lt (a := k % 2 ^ j)]
  exact lt_trans (Nat.mod_lt _ h0) h2

/-- The power of two of each exponent field. -/
theorem power_eq : ∀ e : Fin 32, IntOp.shli .host 1#32 (IntOp.subi (IntOp.maxsi (BitVec.ofNat 32 e.val) 1#32) 1#32)
    = BitVec.ofNat 32 (2 ^ (max e.val 1 - 1)) := by decide

/-- The significand of a fraction and an exponent field. -/
theorem significand_eq (e m : Nat) (he : e < 32) :
    Scalar.select (IntOp.cmpi .eq (BitVec.ofNat 32 e) 0#32) (BitVec.ofNat 32 m) (IntOp.addi 1024#32 (BitVec.ofNat 32 m))
      = BitVec.ofNat 32 (if e = 0 then m else 1024 + m) := by
  show (if BitVec.ofBool (BitVec.ofNat 32 e == 0#32) = 1 then _ else 1024#32 + BitVec.ofNat 32 m) = _
  by_cases h : e = 0
  · subst h; rfl
  · have hne : BitVec.ofNat 32 e ≠ 0#32 := by
      intro h'
      have := congrArg BitVec.toNat h'
      rw [BitVec.toNat_ofNat, BitVec.toNat_ofNat] at this
      omega
    rw [if_neg h, BitVec.ofNat_add, beq_eq_false_iff_ne.2 hne]
    rfl

/-- A pattern widened with zeros, as a number. -/
theorem widen_eq (b : BitVec 16) : b.setWidth 32 = BitVec.ofNat 32 b.toNat := by
  apply BitVec.eq_of_toNat_eq
  rw [BitVec.toNat_setWidth, BitVec.toNat_ofNat]

/-- The reference's magnitude is the pattern's. -/
theorem scaled_eq (b : BitVec 16) : (scaled b : Ideal .f32) = ((mag b.toNat : ℝ) : EReal) := by
  have hb := b.isLt
  have hw := widen_eq b
  have hexp : expo b = BitVec.ofNat 32 (b.toNat / 1024 % 32) := by
    unfold expo
    rw [hw, shrsi_ofNat .host (by omega) 10 (by decide)]
    exact andi_ofNat (by omega) 5 (by decide)
  have hman : IntOp.andi (b.setWidth 32) 1023#32 = BitVec.ofNat 32 (b.toNat % 1024) := by
    rw [hw]
    exact andi_ofNat (by omega) 10 (by decide)
  have he : b.toNat / 1024 % 32 < 32 := Nat.mod_lt _ (by decide)
  have hp := power_eq ⟨b.toNat / 1024 % 32, he⟩
  have hle : 2 ^ (max (b.toNat / 1024 % 32) 1 - 1) < 2 ^ 31 := Nat.pow_lt_pow_right (by decide) (by omega)
  unfold scaled
  rw [hexp, hman, significand_eq _ _ he, hp, sitofp_ofNat (by split_ifs <;> omega), sitofp_ofNat hle]
  show (_ : EReal) * _ * Ideal.ofBits .f32 0x33800000#32 = _
  rw [ofBits_unit, ← EReal.coe_mul, ← EReal.coe_mul]
  unfold mag
  push_cast
  rfl

/-- The reference's decoding gives the pattern's number. -/
theorem decode_eq (b : BitVec 16) : (decode b : Ideal .f32) = half b := by
  have hb := b.isLt
  have hw := widen_eq b
  unfold decode half
  rw [scaled_eq, hw, shrsi_ofNat .host (by omega) 15 (by decide)]
  show (if BitVec.ofBool (BitVec.ofNat 32 (b.toNat / 32768) == 1#32) = 1 then -((mag b.toNat : ℝ) : EReal) else _) = _
  have hs : b.toNat / 32768 = 0 ∨ b.toNat / 32768 = 1 := by omega
  rcases hs with h | h
  · rw [h, if_neg (by decide), if_neg (by decide), one_mul]
  · rw [h, if_pos (by decide), if_pos rfl, neg_one_mul, EReal.coe_neg]

end Cert.Half

end
-- ==== Proof.Fields.lean ====
/- The 6-bit scales and mins of a super-block: twelve packed bytes, read byte by byte or four at a time in 32-bit words. -/
module

public import Idealize.ShloMosaic.Lib.BitcastFour

@[expose] public section

noncomputable section

namespace Cert.Fields

open Idealize.ShloMosaic

/-- The scale of sub-block `u`: the low six bits of byte `u` for the first four, else four bits of byte `u + 4` below the top two
    of byte `u - 4`. -/
def scale6 (B : Nat → BitVec 8) (u : Nat) : BitVec 32 :=
  if u < 4 then IntOp.andi ((B u).setWidth 32) 63#32
  else IntOp.ori (IntOp.andi ((B (u + 4)).setWidth 32) 15#32) (IntOp.shli .host (IntOp.shrsi .host ((B (u - 4)).setWidth 32) 6#32) 4#32)

/-- The min of sub-block `u`: the low six bits of byte `u + 4` for the first four, else the high four bits of byte `u + 4` below
    the top two of byte `u`. -/
def min6 (B : Nat → BitVec 8) (u : Nat) : BitVec 32 :=
  if u < 4 then IntOp.andi ((B (u + 4)).setWidth 32) 63#32
  else IntOp.ori (IntOp.shrsi .host ((B (u + 4)).setWidth 32) 4#32) (IntOp.shli .host (IntOp.shrsi .host ((B u).setWidth 32) 6#32) 4#32)

/-- The byte of a word at bit `j`. -/
def byteOf (v : BitVec 32) (j : Nat) : BitVec 32 := IntOp.andi (IntOp.shrui .vector v (BitVec.ofNat 32 j)) 255#32

/-- A widened byte's arithmetic shift right is its logical one. -/
theorem shrsi_widen (b : BitVec 8) (k : BitVec 32) (h : k.toNat < 32) : IntOp.shrsi .host (b.setWidth 32) k = b.setWidth 32 >>> k.toNat := by
  unfold IntOp.shrsi
  rw [if_pos h, BitVec.sshiftRight', BitVec.sshiftRight_eq_of_msb_false]
  rw [BitVec.msb_eq_false_iff_two_mul_lt, BitVec.toNat_setWidth]
  have := b.isLt
  omega

/-- A word's bits, when it holds four of the bytes. -/
def Holds (W : BitVec 32) (B : Nat → BitVec 8) (a : Nat) : Prop := ∀ q, q < 32 → W.getLsbD q = (B (4 * a + q / 8)).getLsbD (q % 8)

variable {W0 W1 W2 : BitVec 32} {B : Nat → BitVec 8}

/-- A bit of a byte beyond its eighth is clear. -/
theorem byte_high (b : BitVec 8) (i : Nat) (h : 8 ≤ i) : b.getLsbD i = false := BitVec.getLsbD_of_ge b i h

/-- Bit `i` of the byte at bit `j` of a word. -/
theorem byteOf_getLsbD (v : BitVec 32) (j i : Nat) (hj : j < 32) (hi : i < 32) : (byteOf v j).getLsbD i = (decide (i < 8) && v.getLsbD (j + i)) := by
  have e : (BitVec.ofNat 32 j).toNat = j := by rw [BitVec.toNat_ofNat]; omega
  unfold byteOf IntOp.shrui
  rw [if_pos (by omega)]
  show ((v >>> BitVec.ofNat 32 j) &&& 255#32).getLsbD i = _
  have hm : (255#32).getLsbD i = decide (i < 8) := by interval_cases i <;> rfl
  rw [BitVec.getLsbD_and, BitVec.ushiftRight_eq', e, BitVec.getLsbD_ushiftRight, hm, Bool.and_comm]

/-- The first four scales are the bytes of the masked first word. -/
theorem scale_low (h0 : Holds W0 B 0) (j : Nat) (hj : j < 4) : byteOf (IntOp.andi W0 1061109567#32) (8 * j) = scale6 B j := by
  apply BitVec.eq_of_getLsbD_eq
  intro i hi
  rw [byteOf_getLsbD _ _ _ (by omega) hi, scale6, if_pos hj]
  show (decide (i < 8) && (W0 &&& 1061109567#32).getLsbD (8 * j + i)) = ((B j).setWidth 32 &&& 63#32).getLsbD i
  rw [BitVec.getLsbD_and, BitVec.getLsbD_and, BitVec.getLsbD_setWidth]
  by_cases h8 : i < 8
  · rw [h0 _ (by omega), show 4 * 0 + (8 * j + i) / 8 = j by omega, show (8 * j + i) % 8 = i by omega]
    have : (1061109567#32).getLsbD (8 * j + i) = (63#32).getLsbD i := by interval_cases j <;> interval_cases i <;> rfl
    simp [this, h8, hi]
  · simp [h8, byte_high (B j) i (by omega)]

/-- The first four mins are the bytes of the masked second word. -/
theorem min_low (h1 : Holds W1 B 1) (j : Nat) (hj : j < 4) : byteOf (IntOp.andi W1 1061109567#32) (8 * j) = min6 B j := by
  have h : Holds W1 (fun u => B (u + 4)) 0 := fun q hq => by
    rw [h1 q hq]
    exact congrArg (fun a => (B a).getLsbD (q % 8)) (by omega)
  rw [scale_low h j hj, scale6, min6, if_pos hj, if_pos hj]

/-- The last four scales are the bytes of the third word's low fours joined with the first word's top twos. -/
theorem scale_high (h0 : Holds W0 B 0) (h2 : Holds W2 B 2) (j : Nat) (hj : j < 4) :
    byteOf (IntOp.ori (IntOp.andi W2 252645135#32) (IntOp.andi (IntOp.shrui .vector W0 2#32) 808464432#32)) (8 * j) = scale6 B (j + 4) := by
  apply BitVec.eq_of_getLsbD_eq
  intro i hi
  rw [byteOf_getLsbD _ _ _ (by omega) hi, scale6, if_neg (by omega), shrsi_widen _ _ (by decide)]
  show (decide (i < 8) && (W2 &&& 252645135#32 ||| W0 >>> 2 &&& 808464432#32).getLsbD (8 * j + i))
    = ((B (j + 4 + 4)).setWidth 32 &&& 15#32 ||| ((B (j + 4 - 4)).setWidth 32 >>> 6) <<< 4).getLsbD i
  simp only [BitVec.getLsbD_and, BitVec.getLsbD_or, BitVec.getLsbD_setWidth, BitVec.getLsbD_ushiftRight, BitVec.getLsbD_shiftLeft,
    Nat.add_sub_cancel]
  by_cases h8 : i < 8
  · rw [h2 _ (by omega), show 4 * 2 + (8 * j + i) / 8 = j + 4 + 4 by omega, show (8 * j + i) % 8 = i by omega]
    have m1 : (252645135#32).getLsbD (8 * j + i) = (15#32).getLsbD i := by interval_cases j <;> interval_cases i <;> rfl
    have m2 : (808464432#32).getLsbD (8 * j + i) = (48#32).getLsbD i := by interval_cases j <;> interval_cases i <;> rfl
    have hw : i < 6 → W0.getLsbD (2 + (8 * j + i)) = (B j).getLsbD (2 + i) := fun h6 => by
      rw [h0 _ (by omega), show 4 * 0 + (2 + (8 * j + i)) / 8 = j by omega, show (2 + (8 * j + i)) % 8 = 2 + i by omega]
    rw [m1, m2]
    interval_cases i <;> simp_all [byte_high (B j)]
  · have ha : (B j).getLsbD (6 + (i - 4)) = false := byte_high _ _ (by omega)
    simp [h8, byte_high (B (j + 4 + 4)) i (by omega), ha]

/-- The last four mins are the bytes of the third word's high fours joined with the second word's top twos. -/
theorem min_high (h1 : Holds W1 B 1) (h2 : Holds W2 B 2) (j : Nat) (hj : j < 4) :
    byteOf (IntOp.ori (IntOp.andi (IntOp.shrui .vector W2 4#32) 252645135#32) (IntOp.andi (IntOp.shrui .vector W1 2#32) 808464432#32)) (8 * j)
      = min6 B (j + 4) := by
  apply BitVec.eq_of_getLsbD_eq
  intro i hi
  rw [byteOf_getLsbD _ _ _ (by omega) hi, min6, if_neg (by omega), shrsi_widen _ _ (by decide), shrsi_widen _ _ (by decide)]
  show (decide (i < 8) && (W2 >>> 4 &&& 252645135#32 ||| W1 >>> 2 &&& 808464432#32).getLsbD (8 * j + i))
    = ((B (j + 4 + 4)).setWidth 32 >>> 4 ||| ((B (j + 4)).setWidth 32 >>> 6) <<< 4).getLsbD i
  simp only [BitVec.getLsbD_and, BitVec.getLsbD_or, BitVec.getLsbD_setWidth, BitVec.getLsbD_ushiftRight, BitVec.getLsbD_shiftLeft]
  by_cases h8 : i < 8
  · have m1 : (252645135#32).getLsbD (8 * j + i) = (15#32).getLsbD i := by interval_cases j <;> interval_cases i <;> rfl
    have m2 : (808464432#32).getLsbD (8 * j + i) = (48#32).getLsbD i := by interval_cases j <;> interval_cases i <;> rfl
    have hw : i < 6 → W1.getLsbD (2 + (8 * j + i)) = (B (j + 4)).getLsbD (2 + i) := fun h6 => by
      rw [h1 _ (by omega), show 4 * 1 + (2 + (8 * j + i)) / 8 = j + 4 by omega, show (2 + (8 * j + i)) % 8 = 2 + i by omega]
    have hv : i < 4 → W2.getLsbD (4 + (8 * j + i)) = (B (j + 4 + 4)).getLsbD (4 + i) := fun h4 => by
      rw [h2 _ (by omega), show 4 * 2 + (4 + (8 * j + i)) / 8 = j + 4 + 4 by omega, show (4 + (8 * j + i)) % 8 = 4 + i by omega]
    rw [m1, m2]
    interval_cases i <;> simp_all [byte_high (B (j + 4)), byte_high (B (j + 4 + 4))]
  · have ha : (B (j + 4)).getLsbD (6 + (i - 4)) = false := byte_high _ _ (by omega)
    simp [h8, byte_high (B (j + 4 + 4)) (4 + i) (by omega), ha]

end Cert.Fields

end
-- ==== Proof.Entries.lean ====
/- The scratch buffers of one grid step, read at an index: each entry is a 6-bit field of a super-block times its factor. -/
module

public import proofs.«01_k».proof.Proof.Chunk
public import proofs.«01_k».proof.Proof.Half
public import proofs.«01_k».proof.Proof.Fields

@[expose] public section

set_option maxRecDepth 16384

noncomputable section

namespace Cert.KernelIdeal.Gen

open Idealize.ShloMosaic Idealize.ShloMosaic.TcCoe Cert.Half Cert.Fields

section
variable {F : FTy → Type} [FloatOps F]

/-- The kernel's decoding of a block of factors works pattern by pattern. -/
theorem factors_rebias (h : Vec F S18x2048 .i16) (i : S18x2048.Idx) : (k0_pay1 h : FVec F S18x2048 .f32) i = rebias (h i) := by
  unfold k0_pay1
  rw [shapeCast_self]
  rfl

/-- The mins' factors are decoded as the scales' are. -/
theorem min_factors (c : Dev nD) (arg5 : Memref sig .tc .vmem S18x2048 .i16) (harg5 : arg5.IsWhole) (x4 : Vec F S18x2048 .i16) :
    kernelRun0_A.sl.r_3 c arg5 harg5 x4 = kernelRun0_A.sl.r c arg5 harg5 x4 := by
  rfl

end

/-- The factors decoded: each pattern's number. -/
theorem factors_apply (h : Vec Ideal S18x2048 .i16) (i : S18x2048.Idx) : (k0_pay1 h : FVec Ideal S18x2048 .f32) i = half (h i) :=
  (factors_rebias h i).trans (rebias_eq (h i))

/-- The twelve bytes of a column of a loaded super-block. -/
def bytesOf (w : Vec Ideal S1x12x2048 .i8) (n : Fin 2048) (i : Nat) : BitVec 8 := if h : i < 12 then w (ix3 0 ⟨i, h⟩ n) else 0#8

/-- The three words of a loaded super-block hold its bytes four by four. -/
theorem words_hold (w : Vec Ideal S1x12x2048 .i8) (n : Fin 2048) (a : Fin 3) :
    Holds ((k0_pay6 (F := Ideal) w) (ix2 a n)) (bytesOf w n) a.val := by
  intro q hq
  unfold k0_pay6
  rw [show (ix2 a n : S3x2048.Idx) = ValueIdx.ix2 a n from ix2_eq_valueIdx a n]
  refine (bitcast_8_32_getLsbD_ix2 (R := 12) (r := 3) (n := 2048) _ _ a n q hq ⟨4 * a.val + q / 8, by omega⟩ rfl).trans ?_
  refine congrArg (fun b : BitVec 8 => b.getLsbD (q % 8)) ?_
  unfold bytesOf
  rw [dif_pos (by omega)]
  rw [← ix2_eq_valueIdx]
  pointwise []

/-- The words of four scales hold the scales. -/
theorem scaleWord_byte (w : Vec Ideal S1x12x2048 .i8) (n : Fin 2048) (h j : Nat) (hh : h < 2) (hj : j < 4) :
    byteOf (scaleWord w h (ix2 0 n)) (8 * j) = scale6 (bytesOf w n) (4 * h + j) := by
  have h0 := words_hold w n 0
  have h2 := words_hold w n 2
  unfold scaleWord
  obtain rfl | rfl : h = 0 ∨ h = 1 := by omega
  · rw [if_pos rfl, show 4 * 0 + j = j by omega, ← scale_low h0 j hj]
    pointwise [k0_pay12, k0_pay7]
  · rw [if_neg (by decide), show 4 * 1 + j = j + 4 by omega, ← scale_high h0 h2 j hj]
    pointwise [k0_pay14, k0_pay9, k0_pay7]

/-- The words of four mins hold the mins. -/
theorem minWord_byte (w : Vec Ideal S1x12x2048 .i8) (n : Fin 2048) (h j : Nat) (hh : h < 2) (hj : j < 4) :
    byteOf (minWord w h (ix2 0 n)) (8 * j) = min6 (bytesOf w n) (4 * h + j) := by
  have h1 := words_hold w n 1
  have h2 := words_hold w n 2
  unfold minWord
  obtain rfl | rfl : h = 0 ∨ h = 1 := by omega
  · rw [if_pos rfl, show 4 * 0 + j = j by omega, ← min_low h1 j hj]
    pointwise [k0_pay13, k0_pay8]
  · rw [if_neg (by decide), show 4 * 1 + j = j + 4 by omega, ← min_high h1 h2 j hj]
    pointwise [k0_pay15, k0_pay9, k0_pay8]

/-- A stored tile at an index. -/
theorem tile_apply (v : IVec S1x2048 32) (g : FVec Ideal S1x2048 .f32) (p : Nat) (a : Fin 1) (q : Fin 2) (n : Fin 2048) :
    tile v g p (ix3 a q n) = (FloatOps.sitofp (F := Ideal) .f32 (byteOf (v (ix2 0 n)) (8 * (2 * p + q.val))) : EReal) * g (ix2 0 n) := by
  have key : ∀ j : Nat, (FloatOps.sitofp (F := Ideal) .f32 (IntOp.andi (IntOp.shrui .vector (v (ix2 0 n)) (BitVec.ofNat 32 j)) 255#32) : EReal) * g (ix2 0 n)
      = (FloatOps.sitofp (F := Ideal) .f32 (byteOf (v (ix2 0 n)) j) : EReal) * g (ix2 0 n) := fun _ => rfl
  pointwise [tile, entryRow]
  by_cases h : q.val % 2 = 0
  · rw [if_pos h, show 8 * (2 * p + q.val) = 16 * p by omega]; exact key _
  · rw [if_neg h, show 8 * (2 * p + q.val) = 16 * p + 8 by omega]; exact key _

section
variable (arg3 : Memref sig .tc .vmem S18x12x2048 .i8) (harg3 : arg3.IsWhole) (x2 : Vec Ideal S18x12x2048 .i8)

/-- The twelve bytes of super-block `sb` of a column of the block. -/
def column (sb : Fin 18) (n : Fin 2048) (i : Nat) : BitVec 8 := if h : i < 12 then x2 (ix3 sb ⟨i, h⟩ n) else 0#8

/-- The bytes loaded for a row pair are its super-block's. -/
theorem bytesAt_column (r : Fin 72) (n : Fin 2048) : bytesOf (bytesAt arg3 harg3 x2 r) n = column x2 ⟨r.val / 4, by omega⟩ n := by
  funext i
  unfold bytesOf column
  by_cases h : i < 12
  · rw [dif_pos h, dif_pos h]
    refine (readAt_unread arg3 harg3 x2 (bytesRect (r.val / 4) (by omega)) (ix3 0 ⟨i, h⟩ n)).trans (congrArg x2 ?_)
    funext a; apply Fin.ext
    match a with
    | ⟨0, _⟩ => show r.val / 4 + 1 * 0 = r.val / 4; omega
    | ⟨1, _⟩ => show 0 + 1 * i = i; omega
    | ⟨2, _⟩ => show 0 + 1 * n.val = n.val; omega
  · rw [dif_neg h, dif_neg h]

/-- The tile of row pair `r` at an index: row `q` of the pair holds field `2r + q` of the column, times its factor. -/
theorem rowTile_apply (word : Vec Ideal S1x12x2048 .i8 → Nat → IVec S1x2048 32) (six : (Nat → BitVec 8) → Nat → BitVec 32)
    (hw : ∀ w n h j, h < 2 → j < 4 → byteOf (word w h (ix2 0 n)) (8 * j) = six (bytesOf w n) (4 * h + j))
    (g : FVec Ideal S18x2048 .f32) (r : Fin 72) (a : Fin 1) (q : Fin 2) (n : Fin 2048) :
    rowTile arg3 harg3 x2 word g r (ix3 a q n)
      = (FloatOps.sitofp (F := Ideal) .f32 (six (column x2 ⟨r.val / 4, by omega⟩ n) ((2 * r.val + q.val) % 8)) : EReal) * g (ix2 ⟨r.val / 4, by omega⟩ n) := by
  unfold rowTile
  rw [tile_apply, hw _ n (r.val / 2 % 2) (2 * (r.val % 2) + q.val) (by omega) (by omega), bytesAt_column,
    show 4 * (r.val / 2 % 2) + (2 * (r.val % 2) + q.val) = (2 * r.val + q.val) % 8 by omega]
  pointwise [rowOf]

/-- An entry of a scratch buffer: row pair `r`, row `q` of the pair holds field `2r + q` of the column, times its factor. -/
theorem scratch_apply (word : Vec Ideal S1x12x2048 .i8 → Nat → IVec S1x2048 32) (six : (Nat → BitVec 8) → Nat → BitVec 32)
    (hw : ∀ w n h j, h < 2 → j < 4 → byteOf (word w h (ix2 0 n)) (8 * j) = six (bytesOf w n) (4 * h + j))
    (g : FVec Ideal S18x2048 .f32) (r : Fin 72) (q : Fin 2) (n : Fin 2048) :
    View.canon (scratchPieces arg3 harg3 x2 word g) (ix3 r q n)
      = (FloatOps.sitofp (F := Ideal) .f32 (six (column x2 ⟨r.val / 4, by omega⟩ n) ((2 * r.val + q.val) % 8)) : EReal) * g (ix2 ⟨r.val / 4, by omega⟩ n) := by
  refine View.canon_apply_of_pieces (Val := Elt Ideal) (e := .bf16) (fun y : S72x2x2048.Idx =>
    (FloatOps.sitofp (F := Ideal) .f32 (six (column x2 ⟨(y 0).val / 4, by have h : (y 0).val < 72 := (y 0).isLt; omega⟩ (y 2)) ((2 * (y 0).val + (y 1).val) % 8)) : EReal)
      * g (ix2 ⟨(y 0).val / 4, by have h : (y 0).val < 72 := (y 0).isLt; omega⟩ (y 2))) _ ?_ (ix3 r q n) ?_
  · intro p hp x
    obtain ⟨r', _, rfl⟩ := List.mem_map.1 hp
    obtain ⟨a, q', n', rfl⟩ : ∃ (a : Fin 1) (q' : Fin 2) (n' : Fin 2048), x = ix3 a q' n' :=
      ⟨x 0, x 1, x 2, eq_ix3 (n0 := 1) (n1 := 2) (n2 := 2048) x⟩
    have he : (rowRect r').emb (ix3 (n0 := 1) (n1 := 2) (n2 := 2048) a q' n') = ix3 (n0 := 72) (n1 := 2) (n2 := 2048) r' q' n' := by
      funext d; apply Fin.ext
      match d with
      | ⟨0, _⟩ => show r'.val + 1 * a.val = r'.val; omega
      | ⟨1, _⟩ => show 0 + 1 * q'.val = q'.val; omega
      | ⟨2, _⟩ => show 0 + 1 * n'.val = n'.val; omega
    rw [he]
    exact rowTile_apply arg3 harg3 x2 word six hw g r' a q' n'
  · refine ⟨⟨rowRect r, rowTile arg3 harg3 x2 word g r⟩, List.mem_map.2 ⟨r, by simp, rfl⟩, ?_⟩
    show (ix3 r q n : S72x2x2048.Idx) ∈ (rowRect r).set
    unfold rowRect
    rw [Rect.mem_set_unit]
    intro d
    match d with
    | ⟨0, _⟩ => exact ⟨Nat.le_refl r.val, Nat.lt_succ_self r.val⟩
    | ⟨1, _⟩ => exact ⟨Nat.zero_le _, by show q.val < 0 + 2; omega⟩
    | ⟨2, _⟩ => exact ⟨Nat.zero_le _, by show n.val < 0 + 2048; omega⟩

end

end Cert.KernelIdeal.Gen

end
-- ==== Proof.Block.lean ====
/- The output block of one grid step of the ideal kernel, read at an index. -/
module

public import proofs.«01_k».proof.Proof.Entries

@[expose] public section

set_option maxRecDepth 16384

noncomputable section

namespace Cert.KernelIdeal.Gen

open Idealize.ShloMosaic Idealize.ShloMosaic.TcCoe Cert.Half Cert.Fields

/-- The scales' factors are the decoded block. -/
theorem scale_factors (c : Dev nD) (arg4 : Memref sig .tc .vmem S18x2048 .i16) (harg4 : arg4.IsWhole) (x3 : Vec Ideal S18x2048 .i16) :
    kernelRun0_A.sl.r c arg4 harg4 x3 = k0_pay1 x3 := by
  have h : View.readAt (Elt Ideal) arg4.view (Rect.unit (s := S18x2048) ![0, 0] S18x2048.size inb_S18x2048_S18x2048_0_0).toLoadRect
      (harg4.unread x3) = x3 := by
    rw [View.readAt_eq_ld, harg4.read_unread, View.ld_unit_zero (by funext a; fin_cases a <;> rfl)]
  show k0_pay1 (View.readAt (Elt Ideal) arg4.view (Rect.unit (s := S18x2048) ![0, 0] S18x2048.size inb_S18x2048_S18x2048_0_0).toLoadRect
      (harg4.unread x3)) = _
  rw [h]

/-- A field of a column times its factor: row `t` counts the fields of all its super-blocks. -/
def entry (six : (Nat → BitVec 8) → Nat → BitVec 32) (x2 : Vec Ideal S18x12x2048 .i8) (h : Vec Ideal S18x2048 .i16) (t : Fin 144) (n : Fin 2048) : EReal :=
  (FloatOps.sitofp (F := Ideal) .f32 (six (column x2 ⟨t.val / 8, by omega⟩ n) (t.val % 8)) : EReal) * half (h (ix2 ⟨t.val / 8, by omega⟩ n))

/-- The rows of scratch a chunk works with are its columns' entries. -/
theorem scratchRows_entry (arg3 : Memref sig .tc .vmem S18x12x2048 .i8) (harg3 : arg3.IsWhole) (x2 : Vec Ideal S18x12x2048 .i8)
    (h : Vec Ideal S18x2048 .i16) (arg : Memref sig .tc .vmem S72x2x2048 .bf16)
    (word : Vec Ideal S1x12x2048 .i8 → Nat → IVec S1x2048 32) (six : (Nat → BitVec 8) → Nat → BitVec 32)
    (hw : ∀ w n h j, h < 2 → j < 4 → byteOf (word w h (ix2 0 n)) (8 * j) = six (bytesOf w n) (4 * h + j))
    (c : Fin 4) (t : Fin 144) (l : Fin 512) :
    scratchRows arg (scratchPieces arg3 harg3 x2 word (k0_pay1 h)) c (ix2 t l) = entry six x2 h t ⟨512 * c.val + l.val, by omega⟩ := by
  have e1 : (⟨t.val / 2 / 4, by omega⟩ : Fin 18) = ⟨t.val / 8, by omega⟩ := Fin.ext (by show t.val / 2 / 4 = t.val / 8; omega)
  rw [scratchRows_apply, scratch_apply arg3 harg3 x2 word six hw, factors_apply]
  show (FloatOps.sitofp (F := Ideal) .f32 (six (column x2 ⟨t.val / 2 / 4, _⟩ _) ((2 * (t.val / 2) + t.val % 2) % 8)) : EReal)
    * half (h (ix2 ⟨t.val / 2 / 4, _⟩ _)) = _
  rw [e1, show (2 * (t.val / 2) + t.val % 2) % 8 = t.val % 8 by omega]
  rfl

section
variable (x0 : Vec Ideal S8x4608 .bf16) (x1 : Vec Ideal S2048x2304 .i8) (x2 : Vec Ideal S18x12x2048 .i8) (x3 x4 : Vec Ideal S18x2048 .i16)

/-- A term of the contraction: an activation times its weight, the code scaled less the offset. -/
def term (b : Fin 8) (n : Fin 2048) (i : Fin 4608) : EReal :=
  x0 (ix2 b i) * ((FloatOps.sitofp (F := Ideal) .bf16 (nibble (x1 (ix2 n ⟨i.val / 2, by omega⟩)) (i.val % 2)) : EReal)
    * entry scale6 x2 x3 ⟨2 * (i.val / 64) + i.val % 2, by omega⟩ n - entry min6 x2 x4 ⟨2 * (i.val / 64) + i.val % 2, by omega⟩ n)

/-- The block's value at an index: the contraction of the whole row. -/
def blockVal (y : S8x2048.Idx) : EReal := ∑ k : Fin 18, ∑ t : Fin 256, term x0 x1 x2 x3 x4 (y 0) (y 1) ⟨256 * k.val + t.val, by omega⟩

/-- What a grid step leaves in its output block. -/
theorem out_apply (c : Dev nD) (i : grid0.Coords) (arg1 : Memref sig .tc .vmem S8x4608 .bf16) (harg1 : arg1.IsWhole) (arg2 : Memref sig .tc .vmem S2048x2304 .i8) (harg2 : arg2.IsWhole)
    (arg3 : Memref sig .tc .vmem S18x12x2048 .i8) (harg3 : arg3.IsWhole) (arg4 : Memref sig .tc .vmem S18x2048 .i16) (harg4 : arg4.IsWhole) (arg5 : Memref sig .tc .vmem S18x2048 .i16)
    (harg5 : arg5.IsWhole) (arg6 : Memref sig .tc .vmem S8x2048 .bf16) (harg6 : arg6.IsWhole) (arg7 : Memref sig .tc .vmem S72x2x2048 .bf16) (harg7 : arg7.IsWhole)
    (arg8 : Memref sig .tc .vmem S72x2x2048 .bf16) (harg8 : arg8.IsWhole) (y : S8x2048.Idx) :
    out0_A_5 c i arg1 harg1 arg2 harg2 arg3 harg3 arg4 harg4 arg5 harg5 arg6 harg6 arg7 harg7 arg8 harg8 x0 x1 x2 x3 x4 y = blockVal x0 x1 x2 x3 x4 y := by
  have hcov := cover0_A_5 c i arg1 harg1 arg2 harg2 arg3 harg3 arg4 harg4 arg5 harg5 arg6 harg6 arg7 harg7 arg8 harg8 x0 x1 x2 x3 x4
  unfold out0_A_5
  rw [View.read_writes_eq_canon _ _ _ hcov]
  refine View.canon_apply_of_pieces (Val := Elt Ideal) (e := .bf16) (blockVal x0 x1 x2 x3 x4) _ ?_ y (hcov y)
  intro p hp x
  rw [out_pieces] at hp
  obtain ⟨k, _, rfl⟩ := List.mem_map.1 hp
  obtain ⟨b, l, rfl⟩ : ∃ (b : Fin 8) (l : Fin 512), x = ix2 b l := ⟨x 0, x 1, eq_ix2 (n0 := 8) (n1 := 512) x⟩
  have he : (outRect k).emb (ix2 (n0 := 8) (n1 := 512) b l) = ix2 (n0 := 8) (n1 := 2048) b ⟨512 * k.val + l.val, by omega⟩ := by
    funext d; apply Fin.ext
    match d with
    | ⟨0, _⟩ => show 0 + 1 * b.val = b.val; omega
    | ⟨1, _⟩ => show 512 * k.val + 1 * l.val = 512 * k.val + l.val; omega
  rw [he]
  refine (chunk_apply arg1 harg1 arg2 harg2 x0 x1 _ _ k b l).trans ?_
  refine Finset.sum_congr rfl fun q _ => Finset.sum_congr rfl fun t _ => ?_
  rw [scale_pieces, min_pieces, min_factors, scale_factors, scale_factors,
    scratchRows_entry arg3 harg3 x2 x3 arg7 scaleWord scale6 scaleWord_byte, scratchRows_entry arg3 harg3 x2 x4 arg8 minWord min6 minWord_byte]
  have e2 : (⟨(256 * q.val + t.val) / 2, by omega⟩ : Fin 2304) = ⟨128 * q.val + t.val / 2, by omega⟩ :=
    Fin.ext (by show (256 * q.val + t.val) / 2 = 128 * q.val + t.val / 2; omega)
  have e3 : (⟨2 * ((256 * q.val + t.val) / 64) + (256 * q.val + t.val) % 2, by omega⟩ : Fin 144) = ⟨8 * q.val + 2 * (t.val / 64) + t.val % 2, by omega⟩ :=
    Fin.ext (by show 2 * ((256 * q.val + t.val) / 64) + (256 * q.val + t.val) % 2 = 8 * q.val + 2 * (t.val / 64) + t.val % 2; omega)
  show _ = term x0 x1 x2 x3 x4 b ⟨512 * k.val + l.val, by omega⟩ ⟨256 * q.val + t.val, by omega⟩
  unfold term
  dsimp only
  rw [e2, e3, show (256 * q.val + t.val) % 2 = t.val % 2 by omega]

end

end Cert.KernelIdeal.Gen

end
-- ==== Proof.Dequant.lean ====
/- The dequantized product over the extended reals, written on the arguments alone: what both programs compute. -/
module

public import proofs.«01_k».proof.Proof.Chunk
public import proofs.«01_k».proof.Proof.Fields
public import proofs.«01_k».proof.Proof.Half

@[expose] public section

noncomputable section

namespace Cert.Dequant

open Idealize.ShloMosaic Cert.Half Cert.Fields Cert.KernelIdeal.Gen

variable (x : Vec Ideal ⟨3, ![8, 1, 4608]⟩ .bf16) (qs : Vec Ideal ⟨2, ![73728, 2304]⟩ .i8)
  (d dmin : Vec Ideal ⟨2, ![73728, 18]⟩ .i16) (w : Vec Ideal ⟨3, ![73728, 18, 12]⟩ .i8)

/-- The twelve packed bytes of a super-block of a row, zero past the end. -/
def bytes (n : Fin 73728) (s : Fin 18) (i : Nat) : BitVec 8 := if h : i < 12 then w (ix3 n s ⟨i, h⟩) else 0#8

/-- Sub-block `t` of a row: its six-bit field times its super-block's factor. -/
def field (six : (Nat → BitVec 8) → Nat → BitVec 32) (h : Vec Ideal ⟨2, ![73728, 18]⟩ .i16) (n : Fin 73728) (t : Fin 144) : EReal :=
  (FloatOps.sitofp (F := Ideal) .f32 (six (bytes w n ⟨t.val / 8, by omega⟩) (t.val % 8)) : EReal) * half (h (ix2 n ⟨t.val / 8, by omega⟩))

/-- The weight a code of half `h` of group `g` stands for: the code times its scale, less its offset. -/
def weight (n : Fin 73728) (g : Fin 72) (h : Fin 2) (j : Fin 32) : EReal :=
  (FloatOps.sitofp (F := Ideal) .bf16 (nibble (qs (ix2 n ⟨32 * g.val + j.val, by omega⟩)) h.val) : EReal)
    * field w scale6 d n ⟨2 * g.val + h.val, by omega⟩ - field w min6 dmin n ⟨2 * g.val + h.val, by omega⟩

/-- One product of the contraction. -/
def product (b : Fin 8) (n : Fin 73728) (g : Fin 72) (h : Fin 2) (j : Fin 32) : EReal :=
  x (ix3 b 0 ⟨64 * g.val + 32 * h.val + j.val, by omega⟩) * weight qs d dmin w n g h j

/-- The result, a row of activations against an output column: the low halves of all groups, then the high halves. -/
def result (y : (⟨2, ![8, 73728]⟩ : Shape).Idx) : EReal :=
  (∑ g : Fin 72, ∑ j : Fin 32, product x qs d dmin w (y 0) (y 1) g 0 j) + ∑ g : Fin 72, ∑ j : Fin 32, product x qs d dmin w (y 0) (y 1) g 1 j

/-- The interleaved order in which the chunks of 256 positions are added up gives the same result. -/
theorem result_interleaved (f : Fin 72 → Fin 2 → Fin 32 → EReal) :
    ∑ k : Fin 18, ∑ t : Fin 256, f ⟨(256 * k.val + t.val) / 64, by omega⟩ ⟨(256 * k.val + t.val) % 2, by omega⟩ ⟨(256 * k.val + t.val) % 64 / 2, by omega⟩
    = (∑ g : Fin 72, ∑ j : Fin 32, f g 0 j) + ∑ g : Fin 72, ∑ j : Fin 32, f g 1 j := by
  let e : Fin 18 × Fin 256 ≃ (Fin 72 × Fin 32) × Fin 2 :=
    { toFun := fun p => ((⟨(256 * p.1.val + p.2.val) / 64, by omega⟩, ⟨(256 * p.1.val + p.2.val) % 64 / 2, by omega⟩), ⟨(256 * p.1.val + p.2.val) % 2, by omega⟩)
      invFun := fun q => (⟨(64 * q.1.1.val + 2 * q.1.2.val + q.2.val) / 256, by omega⟩, ⟨(64 * q.1.1.val + 2 * q.1.2.val + q.2.val) % 256, by omega⟩)
      left_inv := fun p => Prod.ext (Fin.ext (by dsimp only; omega)) (Fin.ext (by dsimp only; omega))
      right_inv := fun q => Prod.ext (Prod.ext (Fin.ext (by dsimp only; omega)) (Fin.ext (by dsimp only; omega))) (Fin.ext (by dsimp only; omega)) }
  calc _ = ∑ p : Fin 18 × Fin 256, f (e p).1.1 (e p).2 (e p).1.2 := (Fintype.sum_prod_type (fun p => f (e p).1.1 (e p).2 (e p).1.2)).symm
    _ = ∑ q : (Fin 72 × Fin 32) × Fin 2, f q.1.1 q.2 q.1.2 := Equiv.sum_comp e (fun q => f q.1.1 q.2 q.1.2)
    _ = ∑ g : Fin 72, ∑ j : Fin 32, (f g 0 j + f g 1 j) := by
      rw [Fintype.sum_prod_type, Fintype.sum_prod_type]
      simp only [Fin.sum_univ_two]
    _ = _ := by simp only [Finset.sum_add_distrib]

end Cert.Dequant

end
-- ==== Proof.Grid.lean ====
/- The final array of the ideal kernel: its 36 grid steps' blocks side by side, as a function of the arguments. -/
module

public import proofs.«01_k».proof.Proof.Block
public import proofs.«01_k».proof.Proof.Dequant
public import proofs.«01_k».proof.Proof.Gen.KernelIdeal.Value
public import Idealize.ShloMosaic.Lib.Pipeline.ValueKit.Basic

@[expose] public section

set_option maxRecDepth 16384

noncomputable section

namespace Cert.KernelIdeal.Gen

open Idealize.ShloMosaic Idealize.ShloMosaic.TcCoe

section
variable {F : FTy → Type} [FloatOps F] (m : (ℓ : Loc nD τ sig) → Buf (Elt F) ℓ) (c : Dev nD)

/-- The activations as the region finds them: each group's two halves interleaved. -/
theorem V_x : (V m c main_v2 : Vec F S8x4608 .bf16) = shapeCast S8x4608 (transpose S8x72x32x2 [0, 1, 3, 2]
    (shapeCast S8x72x2x32 (m ((c : Thread nD τ).loc main_arg0) : Vec F S8x1x4608 .bf16) shapeCasts_S8x1x4608_S8x72x2x32)
    transposes_S8x72x2x32_S8x72x32x2_0_1_3_2) shapeCasts_S8x72x32x2_S8x4608 := by
  unfold V hostOps0
  after_results_simp
  rfl

/-- The packed scales and mins as the region finds them: transposed. -/
theorem V_scales : (V m c main_v3 : Vec F S18x12x73728 .i8) = transpose S18x12x73728 [1, 2, 0]
    (m ((c : Thread nD τ).loc main_arg4) : Vec F S73728x18x12 .i8) transposes_S73728x18x12_S18x12x73728_1_2_0 := by
  unfold V hostOps0
  after_results_simp

/-- The scales' factors as the region finds them: transposed. -/
theorem V_d : (V m c main_v4 : Vec F S18x73728 .i16) = transpose S18x73728 [1, 0]
    (m ((c : Thread nD τ).loc main_arg2) : Vec F S73728x18 .i16) transposes_S73728x18_S18x73728_1_0 := by
  unfold V hostOps0
  after_results_simp

/-- The mins' factors as the region finds them: transposed. -/
theorem V_dmin : (V m c main_v5 : Vec F S18x73728 .i16) = transpose S18x73728 [1, 0]
    (m ((c : Thread nD τ).loc main_arg3) : Vec F S73728x18 .i16) transposes_S73728x18_S18x73728_1_0 := by
  unfold V hostOps0
  after_results_simp

/-- Interleaving a group's halves: position `i` of a row of activations reads group `i / 64`, half `i % 2`, place `i % 64 / 2`. -/
theorem interleave {α : Type} (x : S8x1x4608.Idx → α) (b : Fin 8) (i : Fin 4608) :
    shapeCast S8x4608 (transpose S8x72x32x2 [0, 1, 3, 2] (shapeCast S8x72x2x32 x shapeCasts_S8x1x4608_S8x72x2x32)
      transposes_S8x72x2x32_S8x72x32x2_0_1_3_2) shapeCasts_S8x72x32x2_S8x4608 (ix2 b i)
    = x (ix3 b 0 ⟨64 * (i.val / 64) + 32 * (i.val % 2) + i.val % 64 / 2, by omega⟩) := by
  have hb := b.isLt
  have hi := i.isLt
  generalize hz : shapeCast S8x72x2x32 x shapeCasts_S8x1x4608_S8x72x2x32 = z
  generalize hy : transpose S8x72x32x2 [0, 1, 3, 2] z transposes_S8x72x2x32_S8x72x32x2_0_1_3_2 = y
  refine (shapeCast_apply y shapeCasts_S8x72x32x2_S8x4608 (ix2 b i)
    (ix4 b (⟨i.val / 64, by omega⟩ : Fin 72) (⟨i.val % 64 / 2, by omega⟩ : Fin 32) (⟨i.val % 2, by omega⟩ : Fin 2)) ?_).trans ?_
  · rewrite [Shape.rowMajor_val_four, Shape.rowMajor_val_two]
    show ((b.val * 72 + i.val / 64) * 32 + i.val % 64 / 2) * 2 + i.val % 2 = b.val * 4608 + i.val
    omega
  rw [← hy]
  refine (transpose_apply [0, 1, 3, 2] z transposes_S8x72x2x32_S8x72x32x2_0_1_3_2 _
    (ix4 b (⟨i.val / 64, by omega⟩ : Fin 72) (⟨i.val % 2, by omega⟩ : Fin 2) (⟨i.val % 64 / 2, by omega⟩ : Fin 32))
    (fun a => match a with | ⟨0, _⟩ => rfl | ⟨1, _⟩ => rfl | ⟨2, _⟩ => rfl | ⟨3, _⟩ => rfl)).trans ?_
  rw [← hz]
  refine shapeCast_apply x shapeCasts_S8x1x4608_S8x72x2x32 _ _ ?_
  rewrite [Shape.rowMajor_val_three, Shape.rowMajor_val_four]
  show (b.val * 1 + 0) * 4608 + (64 * (i.val / 64) + 32 * (i.val % 2) + i.val % 64 / 2)
    = ((b.val * 72 + i.val / 64) * 2 + i.val % 2) * 32 + i.val % 64 / 2
  omega

/-- The windows' blocks move along the output columns only. -/
theorem index_eq : ∀ t : Fin cfg0.N, win0_0.index t 0 = 0 ∧ win0_0.index t 1 = 0 ∧ win0_1.index t 0 = t.val ∧ win0_1.index t 1 = 0
    ∧ win0_2.index t 0 = 0 ∧ win0_2.index t 1 = 0 ∧ win0_2.index t 2 = t.val ∧ win0_3.index t 0 = 0 ∧ win0_3.index t 1 = t.val
    ∧ win0_4.index t 0 = 0 ∧ win0_4.index t 1 = t.val ∧ win0_5.index t 0 = 0 ∧ win0_5.index t 1 = t.val :=
  (by decide +kernel : ∀ t : Fin grid0.N, win0_0.index t 0 = 0 ∧ win0_0.index t 1 = 0 ∧ win0_1.index t 0 = t.val ∧ win0_1.index t 1 = 0
    ∧ win0_2.index t 0 = 0 ∧ win0_2.index t 1 = 0 ∧ win0_2.index t 2 = t.val ∧ win0_3.index t 0 = 0 ∧ win0_3.index t 1 = t.val
    ∧ win0_4.index t 0 = 0 ∧ win0_4.index t 1 = t.val ∧ win0_5.index t 0 = 0 ∧ win0_5.index t 1 = t.val)

/-- Column `n` of step `t`'s block, among all output columns. -/
def colOf (t : Fin cfg0.N) (n : Fin 2048) : Fin 73728 := ⟨2048 * t.val + n.val, by have h : t.val < 36 := t.isLt; omega⟩

end

section
variable (m : (ℓ : Loc nD τ sig) → Buf (Elt Ideal) ℓ) (c : Dev nD)

/-- Step `t` finds the whole interleaved activations. -/
theorem iblk_x (t : Fin cfg0.N) (b : Fin 8) (i : Fin 4608) : (iblk m c 0 t : Vec Ideal S8x4608 .bf16) (ix2 b i)
    = (m ((c : Thread nD τ).loc main_arg0) : Vec Ideal S8x1x4608 .bf16) (ix3 b 0 ⟨64 * (i.val / 64) + 32 * (i.val % 2) + i.val % 64 / 2, by omega⟩) := by
  obtain ⟨h0, h1, -⟩ := index_eq t
  have e : (iblk m c 0 t : Vec Ideal S8x4608 .bf16) (ix2 b i) = (V m c main_v2 : Vec Ideal S8x4608 .bf16) (ix2 b i) := by
    unfold iblk
    rw [View.read_apply]
    show V m c main_v2 _ = V m c main_v2 _
    refine congrArg _ (funext fun a => Fin.ext ?_)
    match a with
    | ⟨0, _⟩ => show win0_0.index t 0 * 8 + 1 * b.val = b.val; rw [h0]; omega
    | ⟨1, _⟩ => show win0_0.index t 1 * 4608 + 1 * i.val = i.val; rw [h1]; omega
  rw [e, V_x]
  exact interleave _ b i

/-- Step `t` finds the codes of its own columns. -/
theorem iblk_qs (t : Fin cfg0.N) (n : Fin 2048) (j : Fin 2304) : (iblk m c 1 t : Vec Ideal S2048x2304 .i8) (ix2 n j)
    = (m ((c : Thread nD τ).loc main_arg1) : Vec Ideal S73728x2304 .i8) (ix2 (colOf t n) j) := by
  obtain ⟨-, -, h0, h1, -⟩ := index_eq t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * n.val = 2048 * t.val + n.val; rw [h0]; omega
  | ⟨1, _⟩ => show win0_1.index t 1 * 2304 + 1 * j.val = j.val; rw [h1]; omega

/-- Step `t` finds the packed scales and mins of its own columns. -/
theorem iblk_scales (t : Fin cfg0.N) (s : Fin 18) (i : Fin 12) (n : Fin 2048) :
    (iblk m c 2 t : Vec Ideal S18x12x2048 .i8) (ix3 s i n)
    = (m ((c : Thread nD τ).loc main_arg4) : Vec Ideal S73728x18x12 .i8) (ix3 (colOf t n) s i) := by
  obtain ⟨-, -, -, -, h0, h1, h2, -⟩ := index_eq t
  have e : (iblk m c 2 t : Vec Ideal S18x12x2048 .i8) (ix3 s i n) = (V m c main_v3 : Vec Ideal S18x12x73728 .i8) (ix3 s i (colOf t n)) := by
    unfold iblk
    rw [View.read_apply]
    show V m c main_v3 _ = V m c main_v3 _
    refine congrArg _ (funext fun a => Fin.ext ?_)
    match a with
    | ⟨0, _⟩ => show win0_2.index t 0 * 18 + 1 * s.val = s.val; rw [h0]; omega
    | ⟨1, _⟩ => show win0_2.index t 1 * 12 + 1 * i.val = i.val; rw [h1]; omega
    | ⟨2, _⟩ => show win0_2.index t 2 * 2048 + 1 * n.val = 2048 * t.val + n.val; rw [h2]; omega
  rw [e, V_scales]
  exact transpose_apply [1, 2, 0] _ transposes_S73728x18x12_S18x12x73728_1_2_0 _ (ix3 (colOf t n) s i)
    (fun a => match a with | ⟨0, _⟩ => rfl | ⟨1, _⟩ => rfl | ⟨2, _⟩ => rfl)

/-- Step `t` finds the scales' factors of its own columns. -/
theorem iblk_d (t : Fin cfg0.N) (s : Fin 18) (n : Fin 2048) : (iblk m c 3 t : Vec Ideal S18x2048 .i16) (ix2 s n)
    = (m ((c : Thread nD τ).loc main_arg2) : Vec Ideal S73728x18 .i16) (ix2 (colOf t n) s) := by
  obtain ⟨-, -, -, -, -, -, -, h0, h1, -⟩ := index_eq t
  have e : (iblk m c 3 t : Vec Ideal S18x2048 .i16) (ix2 s n) = (V m c main_v4 : Vec Ideal S18x73728 .i16) (ix2 s (colOf t n)) := by
    unfold iblk
    rw [View.read_apply]
    show V m c main_v4 _ = V m c main_v4 _
    refine congrArg _ (funext fun a => Fin.ext ?_)
    match a with
    | ⟨0, _⟩ => show win0_3.index t 0 * 18 + 1 * s.val = s.val; rw [h0]; omega
    | ⟨1, _⟩ => show win0_3.index t 1 * 2048 + 1 * n.val = 2048 * t.val + n.val; rw [h1]; omega
  rw [e, V_d]
  exact transpose_apply [1, 0] _ transposes_S73728x18_S18x73728_1_0 _ (ix2 (colOf t n) s)
    (fun a => match a with | ⟨0, _⟩ => rfl | ⟨1, _⟩ => rfl)

/-- Step `t` finds the mins' factors of its own columns. -/
theorem iblk_dmin (t : Fin cfg0.N) (s : Fin 18) (n : Fin 2048) : (iblk m c 4 t : Vec Ideal S18x2048 .i16) (ix2 s n)
    = (m ((c : Thread nD τ).loc main_arg3) : Vec Ideal S73728x18 .i16) (ix2 (colOf t n) s) := by
  obtain ⟨-, -, -, -, -, -, -, -, -, h0, h1, -⟩ := index_eq t
  have e : (iblk m c 4 t : Vec Ideal S18x2048 .i16) (ix2 s n) = (V m c main_v5 : Vec Ideal S18x73728 .i16) (ix2 s (colOf t n)) := by
    unfold iblk
    rw [View.read_apply]
    show V m c main_v5 _ = V m c main_v5 _
    refine congrArg _ (funext fun a => Fin.ext ?_)
    match a with
    | ⟨0, _⟩ => show win0_4.index t 0 * 18 + 1 * s.val = s.val; rw [h0]; omega
    | ⟨1, _⟩ => show win0_4.index t 1 * 2048 + 1 * n.val = 2048 * t.val + n.val; rw [h1]; omega
  rw [e, V_dmin]
  exact transpose_apply [1, 0] _ transposes_S73728x18_S18x73728_1_0 _ (ix2 (colOf t n) s)
    (fun a => match a with | ⟨0, _⟩ => rfl | ⟨1, _⟩ => rfl)

/-- The bytes of a super-block at step `t`, among all columns' bytes. -/
theorem column_iblk (t : Fin cfg0.N) (s : Fin 18) (n : Fin 2048) : column (iblk m c 2 t : Vec Ideal S18x12x2048 .i8) s n
    = Dequant.bytes (m ((c : Thread nD τ).loc main_arg4) : Vec Ideal S73728x18x12 .i8) (colOf t n) s := by
  funext i
  unfold column Dequant.bytes
  by_cases h : i < 12
  · rw [dif_pos h, dif_pos h]; exact iblk_scales m c t s ⟨i, h⟩ n
  · rw [dif_neg h, dif_neg h]

/-- An entry of step `t`'s scales is the field of its column. -/
theorem scale_iblk (t : Fin cfg0.N) (k : Fin 144) (n : Fin 2048) :
    entry Fields.scale6 (iblk m c 2 t : Vec Ideal S18x12x2048 .i8) (iblk m c 3 t : Vec Ideal S18x2048 .i16) k n
    = Dequant.field (m ((c : Thread nD τ).loc main_arg4)) Fields.scale6 (m ((c : Thread nD τ).loc main_arg2)) (colOf t n) k := by
  unfold entry Dequant.field
  rw [column_iblk, iblk_d]

/-- An entry of step `t`'s offsets is the field of its column. -/
theorem min_iblk (t : Fin cfg0.N) (k : Fin 144) (n : Fin 2048) :
    entry Fields.min6 (iblk m c 2 t : Vec Ideal S18x12x2048 .i8) (iblk m c 4 t : Vec Ideal S18x2048 .i16) k n
    = Dequant.field (m ((c : Thread nD τ).loc main_arg4)) Fields.min6 (m ((c : Thread nD τ).loc main_arg3)) (colOf t n) k := by
  unfold entry Dequant.field
  rw [column_iblk, iblk_dmin]

/-- A term of step `t`'s contraction is a product of the result's sum. -/
theorem term_iblk (t : Fin cfg0.N) (b : Fin 8) (n : Fin 2048) (i : Fin 4608) :
    term (iblk m c 0 t) (iblk m c 1 t) (iblk m c 2 t) (iblk m c 3 t) (iblk m c 4 t) b n i
    = Dequant.product (m ((c : Thread nD τ).loc main_arg0)) (m ((c : Thread nD τ).loc main_arg1)) (m ((c : Thread nD τ).loc main_arg2))
        (m ((c : Thread nD τ).loc main_arg3)) (m ((c : Thread nD τ).loc main_arg4)) b (colOf t n)
        ⟨i.val / 64, by omega⟩ ⟨i.val % 2, by omega⟩ ⟨i.val % 64 / 2, by omega⟩ := by
  have e : (⟨i.val / 2, by omega⟩ : Fin 2304) = ⟨32 * (i.val / 64) + i.val % 64 / 2, by omega⟩ :=
    Fin.ext (by show i.val / 2 = 32 * (i.val / 64) + i.val % 64 / 2; omega)
  unfold term Dequant.product Dequant.weight
  rw [iblk_x, iblk_qs, scale_iblk, min_iblk, e]

/-- The result of the whole run on device `c`: the dequantized product of the arguments. -/
abbrev val : Vec Ideal S8x73728 .bf16 := Dequant.result (m ((c : Thread nD τ).loc main_arg0)) (m ((c : Thread nD τ).loc main_arg1))
  (m ((c : Thread nD τ).loc main_arg2)) (m ((c : Thread nD τ).loc main_arg3)) (m ((c : Thread nD τ).loc main_arg4))

/-- Step `t` writes back the result's columns of its block. -/
theorem flushed_eq (t : Fin cfg0.N) : (dats m 0 c).flushed 5 t = ((cfg0.win 5).blk t).view.read (Elt Ideal) (val m c) := by
  obtain ⟨-, -, -, -, -, -, -, -, -, -, -, h0, h1⟩ := index_eq t
  rw [Value.flushed5_A]
  funext y
  rw [View.read_apply]
  refine (out_apply (iblk m c 0 t) (iblk m c 1 t) (iblk m c 2 t) (iblk m c 3 t) (iblk m c 4 t) c _ _ _ _ _ _ _ _ _ _ _ _ _ _ _ _ _ _).trans ?_
  obtain ⟨b, n, rfl⟩ : ∃ (b : Fin 8) (n : Fin 2048), y = ix2 b n := ⟨y 0, y 1, eq_ix2 (n0 := 8) (n1 := 2048) y⟩
  have e : (((cfg0.win 5).blk t).view.emb (ix2 b n) : S8x73728.Idx) = ix2 b (colOf t n) := by
    funext a; apply Fin.ext
    match a with
    | ⟨0, _⟩ => show win0_5.index t 0 * 8 + 1 * b.val = b.val; rw [h0]; omega
    | ⟨1, _⟩ => show win0_5.index t 1 * 2048 + 1 * n.val = 2048 * t.val + n.val; rw [h1]; omega
  refine Eq.trans ?_ (congrArg (val m c) e).symm
  refine Eq.trans ?_ (Dequant.result_interleaved (Dequant.product (m ((c : Thread nD τ).loc main_arg0)) (m ((c : Thread nD τ).loc main_arg1))
    (m ((c : Thread nD τ).loc main_arg2)) (m ((c : Thread nD τ).loc main_arg3)) (m ((c : Thread nD τ).loc main_arg4)) b (colOf t n)))
  unfold blockVal
  exact Finset.sum_congr rfl fun k _ => Finset.sum_congr rfl fun j _ => term_iblk m c t b n ⟨256 * k.val + j.val, by omega⟩

/-- Every column lies in the block of one step. -/
theorem cover (i : S8x73728.Idx) : ∃ t : Fin cfg0.N, (cfg0.win 5).flush t = true ∧ i ∈ ((cfg0.win 5).blk t).view.set := by
  have hi0 : (i 0).val < 8 := (i 0).isLt
  have hi1 : (i 1).val < 73728 := (i 1).isLt
  let t : Fin cfg0.N := ⟨(i 1).val / 2048, by show _ < 36; omega⟩
  obtain ⟨-, -, -, -, -, -, -, -, -, -, -, h0, h1⟩ := index_eq t
  refine ⟨t, flush0_5 t, ?_⟩
  show i ∈ ((View.whole main_v6).slice ((cfg0.win 5).rect t)).set
  erw [View.set_slice_whole]
  refine (Pipeline.Window.mem_rect_iff (cfg0.win 5) t i (by rfl)).mpr fun a => ?_
  match a with
  | ⟨0, _⟩ => show win0_5.index t 0 * 8 ≤ (i 0).val ∧ (i 0).val < win0_5.index t 0 * 8 + 8; rw [h0]; omega
  | ⟨1, _⟩ =>
    show win0_5.index t 1 * 2048 ≤ (i 1).val ∧ (i 1).val < win0_5.index t 1 * 2048 + 2048
    rw [h1, show t.val = (i 1).val / 2048 from rfl]; omega

/-- The final array is the result. -/
theorem final : (dats m 0 c).arrAt 5 cfg0.N = val m c :=
  (dats m 0 c).arrAt_eq_of_cover 5 (val m c) (fun t _ => flushed_eq m c t) cover

end

end Cert.KernelIdeal.Gen

end
-- ==== Proof.Reference.lean ====
/- The reference's result, read at an index. -/
module

public import proofs.«01_k».proof.Proof.Dequant
public import proofs.«01_k».proof.Proof.Gen.ReferenceIdeal.Read
public import Idealize.ShloMosaic.Lib.TwoAxisContraction

@[expose] public section

set_option maxRecDepth 16384

noncomputable section

namespace Cert.ReferenceIdeal.Read

open Idealize.ShloMosaic Cert.Half Cert.Fields Cert.Dequant

section
variable {F : FTy → Type} [FloatOps F]

/-- The scales' factors, decoded. -/
theorem d_decode (x2 : Vec F S73728x18 .i16) (i : S73728x18.Idx) : val_main_v60 (F := F) x2 i = decode (x2 i) := rfl

/-- The mins' factors, decoded. -/
theorem dmin_decode (x3 : Vec F S73728x18 .i16) (i : S73728x18.Idx) : val_main_v94 (F := F) x3 i = decode (x3 i) := rfl

end

section
variable (x0 : Vec Ideal S8x1x4608 .bf16) (x1 : Vec Ideal S73728x2304 .i8) (x2 x3 : Vec Ideal S73728x18 .i16) (x4 : Vec Ideal S73728x18x12 .i8)

/-- The first four bytes of a super-block. -/
theorem bytes_first (n : Fin 73728) (s : Fin 18) (v : Fin 4) : val_main_v9 (F := Ideal) x4 (ix3 n s v) = (bytes x4 n s v.val).setWidth 32 := by
  rw [val_main_v9_apply, val_main_v8_apply]
  unfold bytes
  rw [dif_pos (by omega)]
  refine congrArg (fun i => (x4 i).setWidth 32) (funext fun a => Fin.ext ?_)
  match a with | ⟨0, _⟩ => rfl | ⟨1, _⟩ => rfl | ⟨2, _⟩ => rfl

/-- The middle four bytes. -/
theorem bytes_middle (n : Fin 73728) (s : Fin 18) (v : Fin 4) : val_main_v10 (F := Ideal) x4 (ix3 n s v) = (bytes x4 n s (v.val + 4)).setWidth 32 := by
  rw [val_main_v10_apply, val_main_v8_apply]
  unfold bytes
  rw [dif_pos (by omega)]
  refine congrArg (fun i => (x4 i).setWidth 32) (funext fun a => Fin.ext ?_)
  match a with | ⟨0, _⟩ => rfl | ⟨1, _⟩ => rfl | ⟨2, _⟩ => show 4 + v.val = v.val + 4; omega

/-- The last four bytes. -/
theorem bytes_last (n : Fin 73728) (s : Fin 18) (v : Fin 4) : val_main_v11 (F := Ideal) x4 (ix3 n s v) = (bytes x4 n s (v.val + 8)).setWidth 32 := by
  rw [val_main_v11_apply, val_main_v8_apply]
  unfold bytes
  rw [dif_pos (by omega)]
  refine congrArg (fun i => (x4 i).setWidth 32) (funext fun a => Fin.ext ?_)
  match a with | ⟨0, _⟩ => rfl | ⟨1, _⟩ => rfl | ⟨2, _⟩ => show 8 + v.val = v.val + 8; omega

/-- The reference's scales are the bytes' fields. -/
theorem scales_apply (n : Fin 73728) (s : Fin 18) (u : Fin 8) :
    val_main_v30 (F := Ideal) x4 (ix3 n s u) = scale6 (bytes x4 n s) u.val := by
  unfold val_main_v30
  generalize h13 : val_main_v13 (F := Ideal) x4 = y
  generalize h22 : val_main_v22 (F := Ideal) x4 = z
  pointwise []
  unfold scale6
  by_cases h : u.val < 4
  · rw [dif_pos h, if_pos h, ← h13, val_main_v13_apply, bytes_first]
    rfl
  · rw [dif_neg h, if_neg h, ← h22, val_main_v22_apply, val_main_v17_apply, val_main_v21_apply, val_main_v19_apply, bytes_first, bytes_last]
    rw [show u.val - 4 + 8 = u.val + 4 by omega]
    rfl

/-- The reference's mins are the bytes' fields. -/
theorem mins_apply (n : Fin 73728) (s : Fin 18) (u : Fin 8) :
    val_main_v31 (F := Ideal) x4 (ix3 n s u) = min6 (bytes x4 n s) u.val := by
  unfold val_main_v31
  generalize h15 : val_main_v15 (F := Ideal) x4 = y
  generalize h29 : val_main_v29 (F := Ideal) x4 = z
  pointwise []
  unfold min6
  by_cases h : u.val < 4
  · rw [dif_pos h, if_pos h, ← h15, val_main_v15_apply, bytes_middle]
    rfl
  · rw [dif_neg h, if_neg h, ← h29, val_main_v29_apply, val_main_v24_apply, val_main_v28_apply, val_main_v26_apply, bytes_middle, bytes_last]
    rw [show u.val - 4 + 8 = u.val + 4 by omega, show u.val - 4 + 4 = u.val by omega]
    rfl

/-- The scale of half `h` of group `g`. -/
theorem scale_apply (n : Fin 73728) (g : Fin 72) (h : Fin 2) :
    val_main_v100 (F := Ideal) x2 x4 (ix3 n g h) = field x4 scale6 x2 n ⟨2 * g.val + h.val, by omega⟩ := by
  have e : idx_main_v100 (ix3 n g h) = ix3 n ⟨(2 * g.val + h.val) / 8, by omega⟩ ⟨(2 * g.val + h.val) % 8, by omega⟩ := by
    have hn := n.isLt
    funext a; apply Fin.ext
    match a with
    | ⟨0, _⟩ => show ((n.val * 72 + g.val) * 2 + h.val) / 144 = n.val; omega
    | ⟨1, _⟩ => show ((n.val * 72 + g.val) * 2 + h.val) / 8 % 18 = (2 * g.val + h.val) / 8; omega
    | ⟨2, _⟩ => show ((n.val * 72 + g.val) * 2 + h.val) % 8 = (2 * g.val + h.val) % 8; omega
  rw [val_main_v100_apply, e, val_main_v65_apply, val_main_v64_apply, val_main_v63_apply, val_main_v61_apply, val_main_v62_apply, scales_apply,
    d_decode, decode_eq]
  refine (mul_comm (half _) _).trans (congrArg (fun i => _ * half (x2 i)) (funext fun a => Fin.ext ?_))
  match a with | ⟨0, _⟩ => rfl | ⟨1, _⟩ => rfl

/-- The offset of half `h` of group `g`. -/
theorem offset_apply (n : Fin 73728) (g : Fin 72) (h : Fin 2) :
    val_main_v101 (F := Ideal) x3 x4 (ix3 n g h) = field x4 min6 x3 n ⟨2 * g.val + h.val, by omega⟩ := by
  have e : idx_main_v101 (ix3 n g h) = ix3 n ⟨(2 * g.val + h.val) / 8, by omega⟩ ⟨(2 * g.val + h.val) % 8, by omega⟩ := by
    have hn := n.isLt
    funext a; apply Fin.ext
    match a with
    | ⟨0, _⟩ => show ((n.val * 72 + g.val) * 2 + h.val) / 144 = n.val; omega
    | ⟨1, _⟩ => show ((n.val * 72 + g.val) * 2 + h.val) / 8 % 18 = (2 * g.val + h.val) / 8; omega
    | ⟨2, _⟩ => show ((n.val * 72 + g.val) * 2 + h.val) % 8 = (2 * g.val + h.val) % 8; omega
  rw [val_main_v101_apply, e, val_main_v99_apply, val_main_v98_apply, val_main_v97_apply, val_main_v95_apply, val_main_v96_apply, mins_apply,
    dmin_decode, decode_eq]
  refine (mul_comm (half _) _).trans (congrArg (fun i => _ * half (x3 i)) (funext fun a => Fin.ext ?_))
  match a with | ⟨0, _⟩ => rfl | ⟨1, _⟩ => rfl

/-- The packed byte of a group's place. -/
theorem codes_at (n : Fin 73728) (g : Fin 72) (j : Fin 32) :
    val_main_v1 (F := Ideal) x1 (ix3 n g j) = (x1 (ix2 n ⟨32 * g.val + j.val, by omega⟩)).setWidth 32 := by
  rw [val_main_v1_apply, val_main_v0_apply]
  refine congrArg (fun i => (x1 i).setWidth 32) (funext fun a => Fin.ext ?_)
  have hn := n.isLt
  match a with
  | ⟨0, _⟩ => show ((n.val * 72 + g.val) * 32 + j.val) / 2304 = n.val; omega
  | ⟨1, _⟩ => show ((n.val * 72 + g.val) * 32 + j.val) % 2304 = 32 * g.val + j.val; omega

/-- The weights of the low halves. -/
theorem low_apply (n : Fin 73728) (g : Fin 72) (j : Fin 32) :
    val_main_v107 (F := Ideal) x1 x2 x3 x4 (ix3 n g j) = weight x1 x2 x3 x4 n g 0 j := by
  have e2 : idx_main_v102 (idx_main_v103 (ix3 n g j)) = ix3 n g (0 : Fin 2) := by
    funext a; apply Fin.ext
    match a with | ⟨0, _⟩ => rfl | ⟨1, _⟩ => rfl | ⟨2, _⟩ => rfl
  have e5 : idx_main_v105 (idx_main_v106 (ix3 n g j)) = ix3 n g (0 : Fin 2) := by
    funext a; apply Fin.ext
    match a with | ⟨0, _⟩ => rfl | ⟨1, _⟩ => rfl | ⟨2, _⟩ => rfl
  rw [val_main_v107_apply, val_main_v104_apply, val_main_v103_apply, val_main_v102_apply, val_main_v106_apply, val_main_v105_apply, e2, e5,
    scale_apply, offset_apply, val_main_v4_apply, val_main_v3_apply, codes_at]
  rfl

/-- The weights of the high halves. -/
theorem high_apply (n : Fin 73728) (g : Fin 72) (j : Fin 32) :
    val_main_v113 (F := Ideal) x1 x2 x3 x4 (ix3 n g j) = weight x1 x2 x3 x4 n g 1 j := by
  have e2 : idx_main_v108 (idx_main_v109 (ix3 n g j)) = ix3 n g (1 : Fin 2) := by
    funext a; apply Fin.ext
    match a with | ⟨0, _⟩ => rfl | ⟨1, _⟩ => rfl | ⟨2, _⟩ => rfl
  have e5 : idx_main_v111 (idx_main_v112 (ix3 n g j)) = ix3 n g (1 : Fin 2) := by
    funext a; apply Fin.ext
    match a with | ⟨0, _⟩ => rfl | ⟨1, _⟩ => rfl | ⟨2, _⟩ => rfl
  rw [val_main_v113_apply, val_main_v110_apply, val_main_v109_apply, val_main_v108_apply, val_main_v112_apply, val_main_v111_apply, e2, e5,
    scale_apply, offset_apply, val_main_v7_apply, val_main_v6_apply, codes_at]
  rfl

/-- The activations of the low halves. -/
theorem x_low_apply (b : Fin 8) (g : Fin 72) (j : Fin 32) :
    val_main_v116 (F := Ideal) x0 (ix4 b (0 : Fin 1) g j) = x0 (ix3 b 0 ⟨64 * g.val + j.val, by omega⟩) := by
  have e : idx_main_v115 (idx_main_v116 (ix4 b (0 : Fin 1) g j)) = ix5 b (0 : Fin 1) g (0 : Fin 2) j := by
    funext a; apply Fin.ext
    match a with
    | ⟨0, _⟩ => show (((b.val * 1 + 0) * 72 + g.val) * 32 + j.val) / 2304 = b.val; omega
    | ⟨1, _⟩ => rfl
    | ⟨2, _⟩ => show (((b.val * 1 + 0) * 72 + g.val) * 32 + j.val) / 32 % 72 = g.val; omega
    | ⟨3, _⟩ => rfl
    | ⟨4, _⟩ => show (((b.val * 1 + 0) * 72 + g.val) * 32 + j.val) % 32 = j.val; omega
  rw [val_main_v116_apply, val_main_v115_apply, e, val_main_v114_apply]
  refine congrArg x0 (funext fun a => Fin.ext ?_)
  match a with
  | ⟨0, _⟩ => show ((((b.val * 1 + 0) * 72 + g.val) * 2 + 0) * 32 + j.val) / 4608 = b.val; omega
  | ⟨1, _⟩ => rfl
  | ⟨2, _⟩ => show ((((b.val * 1 + 0) * 72 + g.val) * 2 + 0) * 32 + j.val) % 4608 = 64 * g.val + j.val; omega

/-- The activations of the high halves. -/
theorem x_high_apply (b : Fin 8) (g : Fin 72) (j : Fin 32) :
    val_main_v118 (F := Ideal) x0 (ix4 b (0 : Fin 1) g j) = x0 (ix3 b 0 ⟨64 * g.val + 32 + j.val, by omega⟩) := by
  have e : idx_main_v117 (idx_main_v118 (ix4 b (0 : Fin 1) g j)) = ix5 b (0 : Fin 1) g (1 : Fin 2) j := by
    funext a; apply Fin.ext
    match a with
    | ⟨0, _⟩ => show (((b.val * 1 + 0) * 72 + g.val) * 32 + j.val) / 2304 = b.val; omega
    | ⟨1, _⟩ => rfl
    | ⟨2, _⟩ => show (((b.val * 1 + 0) * 72 + g.val) * 32 + j.val) / 32 % 72 = g.val; omega
    | ⟨3, _⟩ => rfl
    | ⟨4, _⟩ => show (((b.val * 1 + 0) * 72 + g.val) * 32 + j.val) % 32 = j.val; omega
  rw [val_main_v118_apply, val_main_v117_apply, e, val_main_v114_apply]
  refine congrArg x0 (funext fun a => Fin.ext ?_)
  match a with
  | ⟨0, _⟩ => show ((((b.val * 1 + 0) * 72 + g.val) * 2 + 1) * 32 + j.val) / 4608 = b.val; omega
  | ⟨1, _⟩ => rfl
  | ⟨2, _⟩ => show ((((b.val * 1 + 0) * 72 + g.val) * 2 + 1) * 32 + j.val) % 4608 = 64 * g.val + 32 + j.val; omega

/-- A contraction over groups and places is a double sum. -/
theorem contract_apply (A : FVec Ideal S8x1x72x32 .bf16) (B : FVec Ideal S73728x72x32 .bf16) (b : Fin 8) (n : Fin 73728) :
    Host.dotGeneral (F := Ideal) dot_S8x1x72x32_S73728x72x32_S8x1x73728_23_12_01_0_n_n none A B (ix3 b (0 : Fin 1) n)
    = ∑ g : Fin 72, ∑ j : Fin 32, A (ix4 b (0 : Fin 1) g j) * B (ix3 n g j) := by
  show FloatOps.dotGeneral _ none _ A B _ = _
  rw [Ideal.dotGeneral_apply, ValueIdx.sum_contr2 dot_S8x1x72x32_S73728x72x32_S8x1x73728_23_12_01_0_n_n 72 32 rfl rfl rfl]
  refine Finset.sum_congr rfl fun g _ => Finset.sum_congr rfl fun j _ => ?_
  have v0 := ValueIdx.contrEquiv2_symm_val0 dot_S8x1x72x32_S73728x72x32_S8x1x73728_23_12_01_0_n_n 72 32 rfl rfl rfl (g, j)
  have v1 := ValueIdx.contrEquiv2_symm_val1 dot_S8x1x72x32_S73728x72x32_S8x1x73728_23_12_01_0_n_n 72 32 rfl rfl rfl (g, j)
  refine congrArg₂ (· * ·) (congrArg A (funext fun a => Fin.ext ?_)) (congrArg B (funext fun a => Fin.ext ?_))
  · match a with
    | ⟨0, _⟩ => simp [DotDims.lhsIdx, dot_S8x1x72x32_S73728x72x32_S8x1x73728_23_12_01_0_n_n]; rfl
    | ⟨1, _⟩ => simp [DotDims.lhsIdx, dot_S8x1x72x32_S73728x72x32_S8x1x73728_23_12_01_0_n_n]
    | ⟨2, _⟩ => simp [DotDims.lhsIdx, dot_S8x1x72x32_S73728x72x32_S8x1x73728_23_12_01_0_n_n]; exact v0
    | ⟨3, _⟩ => simp [DotDims.lhsIdx, dot_S8x1x72x32_S73728x72x32_S8x1x73728_23_12_01_0_n_n]; exact v1
  · match a with
    | ⟨0, _⟩ => simp [DotDims.rhsIdx, dot_S8x1x72x32_S73728x72x32_S8x1x73728_23_12_01_0_n_n]; rfl
    | ⟨1, _⟩ => simp [DotDims.rhsIdx, dot_S8x1x72x32_S73728x72x32_S8x1x73728_23_12_01_0_n_n]; exact v0
    | ⟨2, _⟩ => simp [DotDims.rhsIdx, dot_S8x1x72x32_S73728x72x32_S8x1x73728_23_12_01_0_n_n]; exact v1

/-- The reference's result is the dequantized product of its arguments. -/
theorem result_eq : val_main_v123 (F := Ideal) x0 x1 x2 x3 x4 = result x0 x1 x2 x3 x4 := by
  funext y
  obtain ⟨b, n, rfl⟩ : ∃ (b : Fin 8) (n : Fin 73728), y = ix2 b n := ⟨y 0, y 1, eq_ix2 (n0 := 8) (n1 := 73728) y⟩
  have e : idx_main_v123 (ix2 b n) = ix3 b (0 : Fin 1) n := by
    funext a; apply Fin.ext
    match a with
    | ⟨0, _⟩ => show (b.val * 73728 + n.val) / 73728 = b.val; omega
    | ⟨1, _⟩ => rfl
    | ⟨2, _⟩ => show (b.val * 73728 + n.val) % 73728 = n.val; omega
  rw [val_main_v123_apply, e, val_main_v122_apply, val_main_v121_apply]
  refine congrArg₂ (fun p q : EReal => p + q) ?_ ?_
  · refine (contract_apply _ _ b n).trans (Finset.sum_congr rfl fun g _ => Finset.sum_congr rfl fun j _ => ?_)
    rw [x_low_apply, low_apply]
    rfl
  · refine (contract_apply _ _ b n).trans (Finset.sum_congr rfl fun g _ => Finset.sum_congr rfl fun j _ => ?_)
    rw [x_high_apply, high_apply]
    rfl

end

end Cert.ReferenceIdeal.Read

end
-- ==== Proof.lean ====
/- The certificate: the kernel and its ideal version end, fault nowhere and keep their arguments, the ideal version is the
   kernel rewritten by the one rule used, and its result is the reference's. -/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Grid
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The kernel at the machine's own floats: it ends, faults nowhere and keeps its arguments. -/
theorem frame_p : Cert.quiescent_Kernel := fun m ρ _ => Cert.Kernel.Gen.frame m ρ

/-- The same of the kernel over the extended reals. -/
theorem frame_pi : Cert.quiescent_KernelIdeal := fun m ρ _ => Cert.KernelIdeal.Gen.frame m ρ

/-- The same of the reference over the extended reals; it has no semaphores. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ideal program is the kernel with its two scratch buffers of packed words read as pairs of bf16 rows: the
    buffers' rule once, the packing of two rows into a word, and the rows against the words at the shape of one
    store, of one chunk's load, and of that load read as plain rows. -/
theorem preserves : Cert.preserves_Kernel_KernelIdeal :=
  open Cert.KernelIdeal IdealRules.bf16_pair in
  ⟨bufferStatement S72x2x2048 S72x1x2048, packStatement S1x2048, statement S1x2x2048 S1x1x2048,
    statement S72x2x512 S72x1x512, statement S144x512 S72x512⟩

/-- Run on the same arguments, the ideal kernel and the reference leave the same result: the dequantized product. -/
theorem algebraic : Cert.algebraic_KernelIdeal_ReferenceIdeal := by
  intro m g m' g' _ hargs
  refine ⟨fun c => Cert.KernelIdeal.Gen.val m c, ?_, ?_⟩
  · exact (θ_run Cert.KernelIdeal.defs _ _).mono (fun r h c => ⟨(h c).1.trans (Cert.KernelIdeal.Gen.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4⟩ := hargs c
    refine (Cert.ReferenceIdeal.Read.val_main_v123_eq m' c).trans ((Cert.ReferenceIdeal.Read.result_eq _ _ _ _ _).trans ?_)
    rw [e0, e1, e2, e3, e4]

/-- All that is claimed, with the facts the programs state. -/
theorem claim : Cert.Claim :=
  ⟨Cert.Kernel.Gen.facts, Cert.KernelIdeal.Gen.facts, Cert.ReferenceIdeal.Gen.facts,
    frame_p, frame_pi, frame_ri, preserves, algebraic⟩

end Cert.Proof

end
